-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Experts [hPre_experts_named : Cert.Pre_experts_named.Facts] (m : (ℓ : Loc Cert.Experts.nD Cert.Experts.τ Cert.Experts.sig) → Buf (Elt Bits) ℓ) : Prop :=
  ∀ c : Dev Cert.Experts.nD,
    (Cert.Pre_experts_named.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_named : Cert.Pre_experts_named.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_named.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_named [hPre_experts_named : Cert.Pre_experts_named.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_named.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Experts [hExperts : Cert.Experts.Facts] [hPre_experts_named : Cert.Pre_experts_named.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_experts_named [hExpertsReferenceIdeal : Cert.ExpertsReferenceIdeal.Facts] [hPre_experts_named : Cert.Pre_experts_named.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_named m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_named : Cert.Pre_experts_named.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v4)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v4) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v61) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hPre_finite_arguments : Cert.Pre_finite_arguments.Facts) (hPre_experts_named : Cert.Pre_experts_named.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Experts (hExperts := hExperts) (hPre_experts_named := hPre_experts_named)
    ∧ quiescent_ExpertsIdeal (hExpertsIdeal := hExpertsIdeal) (hPre_experts_named := hPre_experts_named)
    ∧ quiescent_ExpertsReferenceIdeal (hExpertsReferenceIdeal := hExpertsReferenceIdeal)
    ∧ quiescent_ExpertsReferenceIdeal_pre_experts_named (hExpertsReferenceIdeal := hExpertsReferenceIdeal) (hPre_experts_named := hPre_experts_named)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Experts_ExpertsIdeal
    ∧ algebraic_ExpertsIdeal_ExpertsReferenceIdeal (hExpertsIdeal := hExpertsIdeal) (hExpertsReferenceIdeal := hExpertsReferenceIdeal) (hPre_experts_named := hPre_experts_named)
-- ==== Pre_experts_named.lean ====
abbrev S335872x1024 : Shape := ⟨2, ![335872, 1024]⟩
abbrev S656 : Shape := ⟨1, ![656]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S656 : S_.BroadcastsInDim S656 (![] : Fin 0 → Fin S656.rank)

variable [Facts]

def fn {F : FTy → Type} [FloatOps F] (main_arg0 : FVec F S335872x1024 .bf16) (main_arg1 : IVec S656 32) (main_arg2 : IVec S1 32) (main_arg3 : FVec F S32x1024x2048 .f32) (main_arg4 : FVec F S32x2048 .f32) (main_arg5 : FVec F S32x1024x1024 .f32) (main_arg6 : FVec F S32x1024 .f32) : IVec S656 1 :=
  let main_c : IVec S_ 32 := constantI S_ 32 0#32
  let main_v0 : IVec S656 32 := broadcastInDim S656 ![] bcast_S_S656 main_c
  let main_v1 : IVec S656 1 := cmpi .sge main_arg1 main_v0
  let main_c_0 : IVec S_ 32 := constantI S_ 32 32#32
  let main_v2 : IVec S656 32 := broadcastInDim S656 ![] bcast_S_S656 main_c_0
  let main_v3 : IVec S656 1 := cmpi .slt main_arg1 main_v2
  let main_v4 : IVec S656 1 := andi main_v1 main_v3
  main_v4
-- ==== Pre_finite_arguments.lean ====
abbrev S8x4x8192x128 : Shape := ⟨4, ![8, 4, 8192, 128]⟩
abbrev S_ : Shape := ⟨0, ![]⟩

class Facts : Prop where
  bitsLt_bf16_f32 : FTy.bits .bf16 < FTy.bits .f32
  bcast_S_S8x4x8192x128 : S_.BroadcastsInDim S8x4x8192x128 (![] : Fin 0 → Fin S8x4x8192x128.rank)

variable [Facts]

def fn_part2 {F : FTy → Type} [FloatOps F] (main_v26 : IVec S8x4x8192x128 1) (main_v30 : IVec S8x4x8192x128 1) (main_v33 : IVec S8x4x8192x128 1) (main_v38 : IVec S8x4x8192x128 1) : IVec S8x4x8192x128 1 :=
  let main_v39 : IVec S8x4x8192x128 1 := andi main_v38 main_v26
  let main_v40 : IVec S8x4x8192x128 1 := andi main_v39 main_v30
  let main_v41 : IVec S8x4x8192x128 1 := andi main_v40 main_v33
  main_v41

def fn_part1 {F : FTy → Type} [FloatOps F] (main_arg5 : FVec F S8x4x8192x128 .f32) (main_arg6 : FVec F S8x4x8192x128 .bf16) (main_arg7 : FVec F S8x4x8192x128 .bf16) (main_arg8 : FVec F S8x4x8192x128 .f32) (main_v3 : IVec S8x4x8192x128 1) (main_v7 : IVec S8x4x8192x128 1) (main_v11 : IVec S8x4x8192x128 1) (main_v15 : IVec S8x4x8192x128 1) (main_v17 : FVec F S8x4x8192x128 .f32) (main_v18 : FVec F S8x4x8192x128 .f32) : IVec S8x4x8192x128 1 :=
  let main_v19 : IVec S8x4x8192x128 1 := cmpf .olt main_v17 main_v18
  let main_v20 : FVec F S8x4x8192x128 .f32 := Host.absf main_arg5
  let main_cst_4 : FVec F S_ .f32 := constant S_ .f32 0x7F800000#32
  let main_v21 : FVec F S8x4x8192x128 .f32 := broadcastInDim S8x4x8192x128 ![] bcast_S_S8x4x8192x128 main_cst_4
  let main_v22 : IVec S8x4x8192x128 1 := cmpf .olt main_v20 main_v21
  let main_v23 : FVec F S8x4x8192x128 .f32 := (extf .f32 · bitsLt_bf16_f32) main_arg6
  let main_v24 : FVec F S8x4x8192x128 .f32 := Host.absf main_v23
  let main_cst_5 : FVec F S_ .f32 := constant S_ .f32 0x7F800000#32
  let main_v25 : FVec F S8x4x8192x128 .f32 := broadcastInDim S8x4x8192x128 ![] bcast_S_S8x4x8192x128 main_cst_5
  let main_v26 : IVec S8x4x8192x128 1 := cmpf .olt main_v24 main_v25
  let main_v27 : FVec F S8x4x8192x128 .f32 := (extf .f32 · bitsLt_bf16_f32) main_arg7
  let main_v28 : FVec F S8x4x8192x128 .f32 := Host.absf main_v27
  let main_cst_6 : FVec F S_ .f32 := constant S_ .f32 0x7F800000#32
  let main_v29 : FVec F S8x4x8192x128 .f32 := broadcastInDim S8x4x8192x128 ![] bcast_S_S8x4x8192x128 main_cst_6
  let main_v30 : IVec S8x4x8192x128 1 := cmpf .olt main_v28 main_v29
  let main_v31 : FVec F S8x4x8192x128 .f32 := Host.absf main_arg8
  let main_cst_7 : FVec F S_ .f32 := constant S_ .f32 0x7F800000#32
  let main_v32 : FVec F S8x4x8192x128 .f32 := broadcastInDim S8x4x8192x128 ![] bcast_S_S8x4x8192x128 main_cst_7
  let main_v33 : IVec S8x4x8192x128 1 := cmpf .olt main_v31 main_v32
  let main_v34 : IVec S8x4x8192x128 1 := andi main_v3 main_v7
  let main_v35 : IVec S8x4x8192x128 1 := andi main_v34 main_v11
  let main_v36 : IVec S8x4x8192x128 1 := andi main_v35 main_v15
  let main_v37 : IVec S8x4x8192x128 1 := andi main_v36 main_v19
  let main_v38 : IVec S8x4x8192x128 1 := andi main_v37 main_v22
  fn_part2 (F := F) main_v26 main_v30 main_v33 main_v38

def fn {F : FTy → Type} [FloatOps F] (main_arg0 : FVec F S8x4x8192x128 .bf16) (main_arg1 : FVec F S8x4x8192x128 .bf16) (main_arg2 : FVec F S8x4x8192x128 .bf16) (main_arg3 : FVec F S8x4x8192x128 .bf16) (main_arg4 : FVec F S8x4x8192x128 .bf16) (main_arg5 : FVec F S8x4x8192x128 .f32) (main_arg6 : FVec F S8x4x8192x128 .bf16) (main_arg7 : FVec F S8x4x8192x128 .bf16) (main_arg8 : FVec F S8x4x8192x128 .f32) : IVec S8x4x8192x128 1 :=
  let main_v0 : FVec F S8x4x8192x128 .f32 := (extf .f32 · bitsLt_bf16_f32) main_arg0
  let main_v1 : FVec F S8x4x8192x128 .f32 := Host.absf main_v0
  let main_cst : FVec F S_ .f32 := constant S_ .f32 0x7F800000#32
  let main_v2 : FVec F S8x4x8192x128 .f32 := broadcastInDim S8x4x8192x128 ![] bcast_S_S8x4x8192x128 main_cst
  let main_v3 : IVec S8x4x8192x128 1 := cmpf .olt main_v1 main_v2
  let main_v4 : FVec F S8x4x8192x128 .f32 := (extf .f32 · bitsLt_bf16_f32) main_arg1
  let main_v5 : FVec F S8x4x8192x128 .f32 := Host.absf main_v4
  let main_cst_0 : FVec F S_ .f32 := constant S_ .f32 0x7F800000#32
  let main_v6 : FVec F S8x4x8192x128 .f32 := broadcastInDim S8x4x8192x128 ![] bcast_S_S8x4x8192x128 main_cst_0
  let main_v7 : IVec S8x4x8192x128 1 := cmpf .olt main_v5 main_v6
  let main_v8 : FVec F S8x4x8192x128 .f32 := (extf .f32 · bitsLt_bf16_f32) main_arg2
  let main_v9 : FVec F S8x4x8192x128 .f32 := Host.absf main_v8
  let main_cst_1 : FVec F S_ .f32 := constant S_ .f32 0x7F800000#32
  let main_v10 : FVec F S8x4x8192x128 .f32 := broadcastInDim S8x4x8192x128 ![] bcast_S_S8x4x8192x128 main_cst_1
  let main_v11 : IVec S8x4x8192x128 1 := cmpf .olt main_v9 main_v10
  let main_v12 : FVec F S8x4x8192x128 .f32 := (extf .f32 · bitsLt_bf16_f32) main_arg3
  let main_v13 : FVec F S8x4x8192x128 .f32 := Host.absf main_v12
  let main_cst_2 : FVec F S_ .f32 := constant S_ .f32 0x7F800000#32
  let main_v14 : FVec F S8x4x8192x128 .f32 := broadcastInDim S8x4x8192x128 ![] bcast_S_S8x4x8192x128 main_cst_2
  let main_v15 : IVec S8x4x8192x128 1 := cmpf .olt main_v13 main_v14
  let main_v16 : FVec F S8x4x8192x128 .f32 := (extf .f32 · bitsLt_bf16_f32) main_arg4
  let main_v17 : FVec F S8x4x8192x128 .f32 := Host.absf main_v16
  let main_cst_3 : FVec F S_ .f32 := constant S_ .f32 0x7F800000#32
  let main_v18 : FVec F S8x4x8192x128 .f32 := broadcastInDim S8x4x8192x128 ![] bcast_S_S8x4x8192x128 main_cst_3
  fn_part1 (F := F) main_arg5 main_arg6 main_arg7 main_arg8 main_v3 main_v7 main_v11 main_v15 main_v17 main_v18
-- ==== Kernel.lean ====
abbrev S8x4x8192x128 : Shape := ⟨4, ![8, 4, 8192, 128]⟩
abbrev S1x4x256x128 : Shape := ⟨4, ![1, 4, 256, 128]⟩
abbrev S2x8x64x64 : Shape := ⟨4, ![2, 8, 64, 64]⟩
abbrev S256x256 : Shape := ⟨2, ![256, 256]⟩
abbrev S64x64 : Shape := ⟨2, ![64, 64]⟩
abbrev S64x256 : Shape := ⟨2, ![64, 256]⟩
abbrev S1x1x256x128 : Shape := ⟨4, ![1, 1, 256, 128]⟩
abbrev S256x128 : Shape := ⟨2, ![256, 128]⟩
abbrev S1x128 : Shape := ⟨2, ![1, 128]⟩
abbrev S64x128 : Shape := ⟨2, ![64, 128]⟩
abbrev S256x64 : Shape := ⟨2, ![256, 64]⟩
abbrev S1x64 : Shape := ⟨2, ![1, 64]⟩
abbrev S1x1x64x64 : Shape := ⟨4, ![1, 1, 64, 64]⟩

abbrev nBuf : Space → Nat
  | .hbm => 11
  | .vmem => 29
  | .smem => 0
  | _ => 0

abbrev bufTy : (tb : Table) → Fin (tcTables nBuf tb) → BufTy
  | .hbm, ⟨0, _⟩ => ⟨S8x4x8192x128, .bf16⟩
  | .hbm, ⟨1, _⟩ => ⟨S8x4x8192x128, .bf16⟩
  | .hbm, ⟨2, _⟩ => ⟨S8x4x8192x128, .bf16⟩
  | .hbm, ⟨3, _⟩ => ⟨S8x4x8192x128, .bf16⟩
  | .hbm, ⟨4, _⟩ => ⟨S8x4x8192x128, .bf16⟩
  | .hbm, ⟨5, _⟩ => ⟨S8x4x8192x128, .f32⟩
  | .hbm, ⟨6, _⟩ => ⟨S8x4x8192x128, .bf16⟩
  | .hbm, ⟨7, _⟩ => ⟨S8x4x8192x128, .bf16⟩
  | .hbm, ⟨8, _⟩ => ⟨S8x4x8192x128, .f32⟩
  | .hbm, ⟨9, _⟩ => ⟨S8x4x8192x128, .f32⟩
  | .hbm, ⟨10, _⟩ => ⟨S8x4x8192x128, .f32⟩
  | .local _ .vmem, ⟨0, _⟩ => ⟨S1x4x256x128, .bf16⟩
  | .local _ .vmem, ⟨1, _⟩ => ⟨S1x4x256x128, .bf16⟩
  | .local _ .vmem, ⟨2, _⟩ => ⟨S1x4x256x128, .bf16⟩
  | .local _ .vmem, ⟨3, _⟩ => ⟨S1x4x256x128, .bf16⟩
  | .local _ .vmem, ⟨4, _⟩ => ⟨S1x4x256x128, .bf16⟩
  | .local _ .vmem, ⟨5, _⟩ => ⟨S1x4x256x128, .bf16⟩
  | .local _ .vmem, ⟨6, _⟩ => ⟨S1x4x256x128, .bf16⟩
  | .local _ .vmem, ⟨7, _⟩ => ⟨S1x4x256x128, .bf16⟩
  | .local _ .vmem, ⟨8, _⟩ => ⟨S1x4x256x128, .bf16⟩
  | .local _ .vmem, ⟨9, _⟩ => ⟨S1x4x256x128, .bf16⟩
  | .local _ .vmem, ⟨10, _⟩ => ⟨S1x4x256x128, .f32⟩
  | .local _ .vmem, ⟨11, _⟩ => ⟨S1x4x256x128, .f32⟩
  | .local _ .vmem, ⟨12, _⟩ => ⟨S1x4x256x128, .bf16⟩
  | .local _ .vmem, ⟨13, _⟩ => ⟨S1x4x256x128, .bf16⟩
  | .local _ .vmem, ⟨14, _⟩ => ⟨S1x4x256x128, .bf16⟩
  | .local _ .vmem, ⟨15, _⟩ => ⟨S1x4x256x128, .bf16⟩
  | .local _ .vmem, ⟨16, _⟩ => ⟨S1x4x256x128, .bf16⟩
  | .local _ .vmem, ⟨17, _⟩ => ⟨S1x4x256x128, .bf16⟩
  | .local _ .vmem, ⟨18, _⟩ => ⟨S1x4x256x128, .bf16⟩
  | .local _ .vmem, ⟨19, _⟩ => ⟨S1x4x256x128, .bf16⟩
  | .local _ .vmem, ⟨20, _⟩ => ⟨S1x4x256x128, .bf16⟩
  | .local _ .vmem, ⟨21, _⟩ => ⟨S1x4x256x128, .bf16⟩
  | .local _ .vmem, ⟨22, _⟩ => ⟨S1x4x256x128, .f32⟩
  | .local _ .vmem, ⟨23, _⟩ => ⟨S1x4x256x128, .f32⟩
  | .local _ .vmem, ⟨24, _⟩ => ⟨S1x4x256x128, .f32⟩
  | .local _ .vmem, ⟨25, _⟩ => ⟨S1x4x256x128, .f32⟩
  | .local _ .vmem, ⟨26, _⟩ => ⟨S1x4x256x128, .f32⟩
  | .local _ .vmem, ⟨27, _⟩ => ⟨S1x4x256x128, .f32⟩
  | .local _ .vmem, ⟨28, _⟩ => ⟨S2x8x64x64, .f32⟩
  | _, _ => ⟨S8x4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_10 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_11 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, c0_i32.toNat, v0.toNat, c0_i32_0.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x4x8192x128 : Shape := ⟨4, ![8, 4, 8192, 128]⟩
abbrev S8x4x8192x2x64 : Shape := ⟨5, ![8, 4, 8192, 2, 64]⟩
abbrev S8192x8x4x2x64 : Shape := ⟨5, ![8192, 8, 4, 2, 64]⟩
abbrev S8192x8x8x64 : Shape := ⟨4, ![8192, 8, 8, 64]⟩
abbrev S8192x16x8x64 : Shape := ⟨4, ![8192, 16, 8, 64]⟩
abbrev S_ : Shape := ⟨0, ![]⟩
abbrev S16x8x64x64 : Shape := ⟨4, ![16, 8, 64, 64]⟩
abbrev S1x16x8x64 : Shape := ⟨4, ![1, 16, 8, 64]⟩
abbrev S16x8x64 : Shape := ⟨3, ![16, 8, 64]⟩
abbrev S16x8x1x64 : Shape := ⟨4, ![16, 8, 1, 64]⟩
abbrev S16x8x64x1 : Shape := ⟨4, ![16, 8, 64, 1]⟩

abbrev nBuf : Space → Nat
  | .hbm => 148
  | .vmem => 0
  | .smem => 0
  | _ => 0

abbrev hbmTy0_0 (i : Nat) : BufTy := match i % 128 with
  | 0 => ⟨S8x4x8192x128, .bf16⟩
  | 1 => ⟨S8x4x8192x128, .bf16⟩
  | 2 => ⟨S8x4x8192x128, .bf16⟩
  | 3 => ⟨S8x4x8192x128, .bf16⟩
  | 4 => ⟨S8x4x8192x128, .bf16⟩
  | 5 => ⟨S8x4x8192x128, .f32⟩
  | 6 => ⟨S8x4x8192x128, .bf16⟩
  | 7 => ⟨S8x4x8192x128, .bf16⟩
  | 8 => ⟨S8x4x8192x128, .f32⟩
  | 9 => ⟨S8x4x8192x128, .f32⟩
  | 10 => ⟨S8x4x8192x2x64, .f32⟩
  | 11 => ⟨S8192x8x4x2x64, .f32⟩
  | 12 => ⟨S8192x8x8x64, .f32⟩
  | 13 => ⟨S8x4x8192x128, .f32⟩
  | 14 => ⟨S8x4x8192x2x64, .f32⟩
  | 15 => ⟨S8192x8x4x2x64, .f32⟩
  | 16 => ⟨S8192x8x8x64, .f32⟩
  | 17 => ⟨S8192x8x8x64, .f32⟩
  | 18 => ⟨S8192x16x8x64, .f32⟩
  | 19 => ⟨S8x4x8192x2x64, .f32⟩
  | 20 => ⟨S8192x8x4x2x64, .f32⟩
  | 21 => ⟨S8192x8x8x64, .f32⟩
  | 22 => ⟨S8x4x8192x2x64, .f32⟩
  | 23 => ⟨S8192x8x4x2x64, .f32⟩
  | 24 => ⟨S8192x8x8x64, .f32⟩
  | 25 => ⟨S8192x8x8x64, .f32⟩
  | 26 => ⟨S8192x16x8x64, .f32⟩
  | 27 => ⟨S8192x16x8x64, .f32⟩
  | 28 => ⟨S8x4x8192x128, .f32⟩
  | 29 => ⟨S8x4x8192x2x64, .f32⟩
  | 30 => ⟨S8192x8x4x2x64, .f32⟩
  | 31 => ⟨S8192x8x8x64, .f32⟩
  | 32 => ⟨S8x4x8192x128, .f32⟩
  | 33 => ⟨S8x4x8192x2x64, .f32⟩
  | 34 => ⟨S8192x8x4x2x64, .f32⟩
  | 35 => ⟨S8192x8x8x64, .f32⟩
  | 36 => ⟨S8192x8x8x64, .f32⟩
  | 37 => ⟨S8192x16x8x64, .f32⟩
  | 38 => ⟨S8x4x8192x128, .f32⟩
  | 39 => ⟨S8x4x8192x2x64, .f32⟩
  | 40 => ⟨S8192x8x4x2x64, .f32⟩
  | 41 => ⟨S8192x8x8x64, .f32⟩
  | 42 => ⟨S8x4x8192x128, .f32⟩
  | 43 => ⟨S8x4x8192x2x64, .f32⟩
  | 44 => ⟨S8192x8x4x2x64, .f32⟩
  | 45 => ⟨S8192x8x8x64, .f32⟩
  | 46 => ⟨S8192x8x8x64, .f32⟩
  | 47 => ⟨S8192x16x8x64, .f32⟩
  | 48 => ⟨S8x4x8192x128, .f32⟩
  | 49 => ⟨S8x4x8192x2x64, .f32⟩
  | 50 => ⟨S8192x8x4x2x64, .f32⟩
  | 51 => ⟨S8192x8x8x64, .f32⟩
  | 52 => ⟨S8x4x8192x128, .f32⟩
  | 53 => ⟨S8x4x8192x2x64, .f32⟩
  | 54 => ⟨S8192x8x4x2x64, .f32⟩
  | 55 => ⟨S8192x8x8x64, .f32⟩
  | 56 => ⟨S8192x8x8x64, .f32⟩
  | 57 => ⟨S8192x16x8x64, .f32⟩
  | 58 => ⟨S8192x16x8x64, .f32⟩
  | 59 => ⟨S8x4x8192x128, .f32⟩
  | 60 => ⟨S8x4x8192x2x64, .f32⟩
  | 61 => ⟨S8192x8x4x2x64, .f32⟩
  | 62 => ⟨S8192x8x8x64, .f32⟩
  | 63 => ⟨S8x4x8192x128, .f32⟩
  | 64 => ⟨S8x4x8192x2x64, .f32⟩
  | 65 => ⟨S8192x8x4x2x64, .f32⟩
  | 66 => ⟨S8192x8x8x64, .f32⟩
  | 67 => ⟨S8192x8x8x64, .f32⟩
  | 68 => ⟨S8192x16x8x64, .f32⟩
  | 69 => ⟨S_, .f32⟩
  | 70 => ⟨S16x8x64x64, .f32⟩
  | 71 => ⟨S_, .f32⟩
  | 72 => ⟨S8192x16x8x64, .f32⟩
  | 73 => ⟨S_, .i32⟩
  | 74 => ⟨S8192x16x8x64, .f32⟩
  | 75 => ⟨S8192x16x8x64, .f32⟩
  | 76 => ⟨S8192x16x8x64, .f32⟩
  | 77 => ⟨S8192x16x8x64, .f32⟩
  | 78 => ⟨S8192x16x8x64, .f32⟩
  | 79 => ⟨S8192x16x8x64, .f32⟩
  | 80 => ⟨S_, .i32⟩
  | 81 => ⟨S16x8x64x64, .f32⟩
  | 82 => ⟨S8192x16x8x64, .f32⟩
  | 83 => ⟨S_, .i32⟩
  | 84 => ⟨S_, .i1⟩
  | 85 => ⟨S_, .i32⟩
  | 86 => ⟨S_, .i32⟩
  | 87 => ⟨S_, .i32⟩
  | 88 => ⟨S1x16x8x64, .f32⟩
  | 89 => ⟨S16x8x64, .f32⟩
  | 90 => ⟨S_, .i32⟩
  | 91 => ⟨S_, .i32⟩
  | 92 => ⟨S_, .i32⟩
  | 93 => ⟨S1x16x8x64, .f32⟩
  | 94 => ⟨S16x8x64, .f32⟩
  | 95 => ⟨S_, .i32⟩
  | 96 => ⟨S_, .i32⟩
  | 97 => ⟨S_, .i32⟩
  | 98 => ⟨S1x16x8x64, .f32⟩
  | 99 => ⟨S16x8x64, .f32⟩
  | 100 => ⟨S_, .i32⟩
  | 101 => ⟨S_, .i32⟩
  | 102 => ⟨S_, .i32⟩
  | 103 => ⟨S1x16x8x64, .f32⟩
  | 104 => ⟨S16x8x64, .f32⟩
  | 105 => ⟨S_, .i32⟩
  | 106 => ⟨S_, .i32⟩
  | 107 => ⟨S_, .i32⟩
  | 108 => ⟨S1x16x8x64, .f32⟩
  | 109 => ⟨S16x8x64, .f32⟩
  | 110 => ⟨S_, .i32⟩
  | 111 => ⟨S_, .i32⟩
  | 112 => ⟨S_, .i32⟩
  | 113 => ⟨S1x16x8x64, .f32⟩
  | 114 => ⟨S16x8x64, .f32⟩
  | 115 => ⟨S16x8x64, .f32⟩
  | 116 => ⟨S16x8x1x64, .f32⟩
  | 117 => ⟨S16x8x64x64, .f32⟩
  | 118 => ⟨S16x8x64x64, .f32⟩
  | 119 => ⟨S16x8x64x1, .f32⟩
  | 120 => ⟨S16x8x1x64, .f32⟩
  | 121 => ⟨S16x8x64x64, .f32⟩
  | 122 => ⟨S16x8x64x64, .f32⟩
  | 123 => ⟨S16x8x64x64, .f32⟩
  | 124 => ⟨S16x8x64x64, .f32⟩
  | 125 => ⟨S16x8x64x1, .f32⟩
  | 126 => ⟨S16x8x1x64, .f32⟩
  | 127 => ⟨S16x8x64x64, .f32⟩
  | _ => ⟨S8x4x8192x128, .bf16⟩

abbrev hbmTy0_1 (i : Nat) : BufTy := match i % 128 with
  | 0 => ⟨S16x8x64x64, .f32⟩
  | 1 => ⟨S16x8x64x64, .f32⟩
  | 2 => ⟨S16x8x64x64, .f32⟩
  | 3 => ⟨S16x8x64, .f32⟩
  | 4 => ⟨S1x16x8x64, .f32⟩
  | 5 => ⟨S_, .i32⟩
  | 6 => ⟨S_, .i32⟩
  | 7 => ⟨S_, .i32⟩
  | 8 => ⟨S8192x16x8x64, .f32⟩
  | 9 => ⟨S_, .i32⟩
  | 10 => ⟨S_, .i32⟩
  | 11 => ⟨S8192x8x8x64, .f32⟩
  | 12 => ⟨S8192x8x4x2x64, .f32⟩
  | 13 => ⟨S8x4x8192x2x64, .f32⟩
  | 14 => ⟨S8x4x8192x128, .f32⟩
  | 15 => ⟨S8192x8x8x64, .f32⟩
  | 16 => ⟨S8192x8x8x64, .f32⟩
  | 17 => ⟨S8192x8x4x2x64, .f32⟩
  | 18 => ⟨S8x4x8192x2x64, .f32⟩
  | 19 => ⟨S8x4x8192x128, .f32⟩
  | _ => ⟨S8x4x8192x128, .bf16⟩

abbrev hbmTy (i : Nat) : BufTy := match i / 128 with
  | 0 => hbmTy0_0 i
  | 1 => hbmTy0_1 i
  | _ => ⟨S8x4x8192x128, .bf16⟩

abbrev bufTy : (tb : Table) → Fin (tcTables nBuf tb) → BufTy
  | .hbm, ⟨i, _⟩ => hbmTy i
  | _, _ => ⟨S8x4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst : Ref sig .tc := ⟨.hbm, 69, rfl⟩
abbrev main_v60 : Ref sig .tc := ⟨.hbm, 70, rfl⟩
abbrev main_cst_0 : Ref sig .tc := ⟨.hbm, 71, rfl⟩
abbrev main_v61 : Ref sig .tc := ⟨.hbm, 72, rfl⟩
abbrev main_c : Ref sig .tc := ⟨.hbm, 73, rfl⟩
abbrev main_v62_0 : Ref sig .tc := ⟨.hbm, 74, rfl⟩
abbrev main_v62_1 : Ref sig .tc := ⟨.hbm, 75, rfl⟩
abbrev main_v62_2 : Ref sig .tc := ⟨.hbm, 76, rfl⟩
abbrev main_v62_3 : Ref sig .tc := ⟨.hbm, 77, rfl⟩
abbrev main_v62_4 : Ref sig .tc := ⟨.hbm, 78, rfl⟩
abbrev main_v62_5 : Ref sig .tc := ⟨.hbm, 79, rfl⟩
abbrev main_v62_6 : Ref sig .tc := ⟨.hbm, 80, rfl⟩
abbrev main_v62_7 : Ref sig .tc := ⟨.hbm, 81, rfl⟩
abbrev main_v62_8 : Ref sig .tc := ⟨.hbm, 82, rfl⟩
abbrev main_while0c_c_9 : Ref sig .tc := ⟨.hbm, 83, rfl⟩
abbrev main_while0c_v72 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_call6_v0 : Ref sig .tc := ⟨.hbm, 88, rfl⟩
abbrev main_while0b_v72 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_c_1 : Ref sig .tc := ⟨.hbm, 92, rfl⟩
abbrev main_while0b_call7_v0 : Ref sig .tc := ⟨.hbm, 93, rfl⟩
abbrev main_while0b_v73 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_call8_v0 : Ref sig .tc := ⟨.hbm, 98, rfl⟩
abbrev main_while0b_v74 : Ref sig .tc := ⟨.hbm, 99, rfl⟩
abbrev main_while0b_call9_c : Ref sig .tc := ⟨.hbm, 100, rfl⟩
abbrev main_while0b_call9_c_0 : Ref sig .tc := ⟨.hbm, 101, rfl⟩
abbrev main_while0b_call9_c_1 : Ref sig .tc := ⟨.hbm, 102, rfl⟩
abbrev main_while0b_call9_v0 : Ref sig .tc := ⟨.hbm, 103, rfl⟩
abbrev main_while0b_v75 : Ref sig .tc := ⟨.hbm, 104, rfl⟩
abbrev main_while0b_call10_c : Ref sig .tc := ⟨.hbm, 105, rfl⟩
abbrev main_while0b_call10_c_0 : Ref sig .tc := ⟨.hbm, 106, rfl⟩
abbrev main_while0b_call10_c_1 : Ref sig .tc := ⟨.hbm, 107, rfl⟩
abbrev main_while0b_call10_v0 : Ref sig .tc := ⟨.hbm, 108, rfl⟩
abbrev main_while0b_v76 : Ref sig .tc := ⟨.hbm, 109, rfl⟩
abbrev main_while0b_call11_c : Ref sig .tc := ⟨.hbm, 110, rfl⟩
abbrev main_while0b_call11_c_0 : Ref sig .tc := ⟨.hbm, 111, rfl⟩
abbrev main_while0b_call11_c_1 : Ref sig .tc := ⟨.hbm, 112, rfl⟩
abbrev main_while0b_call11_v0 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_v90 : Ref sig .tc := ⟨.hbm, 127, rfl⟩
abbrev main_while0b_v91 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_call12_v0 : Ref sig .tc := ⟨.hbm, 132, rfl⟩
abbrev main_while0b_call12_c : Ref sig .tc := ⟨.hbm, 133, rfl⟩
abbrev main_while0b_call12_c_0 : Ref sig .tc := ⟨.hbm, 134, rfl⟩
abbrev main_while0b_call12_c_1 : Ref sig .tc := ⟨.hbm, 135, rfl⟩
abbrev main_while0b_v95 : Ref sig .tc := ⟨.hbm, 136, rfl⟩
abbrev main_while0b_c_9 : Ref sig .tc := ⟨.hbm, 137, rfl⟩
abbrev main_while0b_v96 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩

abbrev nD : Nat := 1
abbrev τ : Topo := Topo.v7x

variable {F : FTy → Type} [FloatOps F]

abbrev main_while0_count : Scf.Loop 32 := ⟨0#32, 8192#32, 1#32⟩
-- ==== Experts.lean ====
abbrev S335872x1024 : Shape := ⟨2, ![335872, 1024]⟩
abbrev S656 : Shape := ⟨1, ![656]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x512 : Shape := ⟨2, ![512, 512]⟩
abbrev S1x512x2048 : Shape := ⟨3, ![1, 512, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S335872x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1x2048, .f32⟩
  | .hbm, ⟨7, _⟩ => ⟨S32x1024x1024, .bf16⟩
  | .hbm, ⟨8, _⟩ => ⟨S32x1x1024, .f32⟩
  | .hbm, ⟨9, _⟩ => ⟨S335872x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .smem, ⟨0, _⟩ => ⟨S656, .i32⟩
  | .local _ .smem, ⟨1, _⟩ => ⟨S1, .i32⟩
  | _, _ => ⟨S335872x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![656], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S656.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S656) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S335872x1024 : Shape := ⟨2, ![335872, 1024]⟩
abbrev S656 : Shape := ⟨1, ![656]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S656x512x1024 : Shape := ⟨3, ![656, 512, 1024]⟩
abbrev S_ : Shape := ⟨0, ![]⟩
abbrev S656x1 : Shape := ⟨2, ![656, 1]⟩
abbrev S656x1024x2048 : Shape := ⟨3, ![656, 1024, 2048]⟩
abbrev S656x512x2048 : Shape := ⟨3, ![656, 512, 2048]⟩
abbrev S656x2048 : Shape := ⟨2, ![656, 2048]⟩
abbrev S656x1x2048 : Shape := ⟨3, ![656, 1, 2048]⟩
abbrev S656x1024x1024 : Shape := ⟨3, ![656, 1024, 1024]⟩
abbrev S656x1024 : Shape := ⟨2, ![656, 1024]⟩
abbrev S656x1x1024 : Shape := ⟨3, ![656, 1, 1024]⟩
abbrev S656x1x1 : Shape := ⟨3, ![656, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S335872x1024, .bf16⟩
  | .hbm, ⟨1, _⟩ => ⟨S656, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S335872x1024, .f32⟩
  | .hbm, ⟨8, _⟩ => ⟨S656x512x1024, .f32⟩
  | .hbm, ⟨9, _⟩ => ⟨S_, .i32⟩
  | .hbm, ⟨10, _⟩ => ⟨S656, .i32⟩
  | .hbm, ⟨11, _⟩ => ⟨S656, .i1⟩
  | .hbm, ⟨12, _⟩ => ⟨S_, .i32⟩
  | .hbm, ⟨13, _⟩ => ⟨S656, .i32⟩
  | .hbm, ⟨14, _⟩ => ⟨S656, .i32⟩
  | .hbm, ⟨15, _⟩ => ⟨S656, .i32⟩
  | .hbm, ⟨16, _⟩ => ⟨S656x1, .i32⟩
  | .hbm, ⟨17, _⟩ => ⟨S656x1024x2048, .f32⟩
  | .hbm, ⟨18, _⟩ => ⟨S656x512x2048, .f32⟩
  | .hbm, ⟨19, _⟩ => ⟨S_, .i32⟩
  | .hbm, ⟨20, _⟩ => ⟨S656, .i32⟩
  | .hbm, ⟨21, _⟩ => ⟨S656, .i1⟩
  | .hbm, ⟨22, _⟩ => ⟨S_, .i32⟩
  | .hbm, ⟨23, _⟩ => ⟨S656, .i32⟩
  | .hbm, ⟨24, _⟩ => ⟨S656, .i32⟩
  | .hbm, ⟨25, _⟩ => ⟨S656, .i32⟩
  | .hbm, ⟨26, _⟩ => ⟨S656x1, .i32⟩
  | .hbm, ⟨27, _⟩ => ⟨S656x2048, .f32⟩
  | .hbm, ⟨28, _⟩ => ⟨S656x1x2048, .f32⟩
  | .hbm, ⟨29, _⟩ => ⟨S656x512x2048, .f32⟩
  | .hbm, ⟨30, _⟩ => ⟨S656x512x2048, .f32⟩
  | .hbm, ⟨31, _⟩ => ⟨S656x512x1024, .f32⟩
  | .hbm, ⟨32, _⟩ => ⟨S_, .f32⟩
  | .hbm, ⟨33, _⟩ => ⟨S656x512x1024, .f32⟩
  | .hbm, ⟨34, _⟩ => ⟨S656x512x1024, .f32⟩
  | .hbm, ⟨35, _⟩ => ⟨S656x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S656x512x1024, .f32⟩
  | .hbm, ⟨40, _⟩ => ⟨S656x512x1024, .f32⟩
  | .hbm, ⟨41, _⟩ => ⟨S_, .f32⟩
  | .hbm, ⟨42, _⟩ => ⟨S656x512x1024, .f32⟩
  | .hbm, ⟨43, _⟩ => ⟨S656x512x1024, .f32⟩
  | .hbm, ⟨44, _⟩ => ⟨S_, .f32⟩
  | .hbm, ⟨45, _⟩ => ⟨S656x512x1024, .f32⟩
  | .hbm, ⟨46, _⟩ => ⟨S656x512x1024, .f32⟩
  | .hbm, ⟨47, _⟩ => ⟨S656x512x1024, .f32⟩
  | .hbm, ⟨48, _⟩ => ⟨S656x512x1024, .f32⟩
  | .hbm, ⟨49, _⟩ => ⟨S_, .f32⟩
  | .hbm, ⟨50, _⟩ => ⟨S656x512x1024, .f32⟩
  | .hbm, ⟨51, _⟩ => ⟨S656x512x1024, .f32⟩
  | .hbm, ⟨52, _⟩ => ⟨S_, .f32⟩
  | .hbm, ⟨53, _⟩ => ⟨S656x512x1024, .f32⟩
  | .hbm, ⟨54, _⟩ => ⟨S656x512x1024, .f32⟩
  | .hbm, ⟨55, _⟩ => ⟨S656x512x1024, .f32⟩
  | .hbm, ⟨56, _⟩ => ⟨S_, .f32⟩
  | .hbm, ⟨57, _⟩ => ⟨S656x512x1024, .f32⟩
  | .hbm, ⟨58, _⟩ => ⟨S656x512x1024, .f32⟩
  | .hbm, ⟨59, _⟩ => ⟨S656x512x1024, .f32⟩
  | .hbm, ⟨60, _⟩ => ⟨S_, .i32⟩
  | .hbm, ⟨61, _⟩ => ⟨S656, .i32⟩
  | .hbm, ⟨62, _⟩ => ⟨S656, .i1⟩
  | .hbm, ⟨63, _⟩ => ⟨S_, .i32⟩
  | .hbm, ⟨64, _⟩ => ⟨S656, .i32⟩
  | .hbm, ⟨65, _⟩ => ⟨S656, .i32⟩
  | .hbm, ⟨66, _⟩ => ⟨S656, .i32⟩
  | .hbm, ⟨67, _⟩ => ⟨S656x1, .i32⟩
  | .hbm, ⟨68, _⟩ => ⟨S656x1024x1024, .f32⟩
  | .hbm, ⟨69, _⟩ => ⟨S656x512x1024, .f32⟩
  | .hbm, ⟨70, _⟩ => ⟨S_, .i32⟩
  | .hbm, ⟨71, _⟩ => ⟨S656, .i32⟩
  | .hbm, ⟨72, _⟩ => ⟨S656, .i1⟩
  | .hbm, ⟨73, _⟩ => ⟨S_, .i32⟩
  | .hbm, ⟨74, _⟩ => ⟨S656, .i32⟩
  | .hbm, ⟨75, _⟩ => ⟨S656, .i32⟩
  | .hbm, ⟨76, _⟩ => ⟨S656, .i32⟩
  | .hbm, ⟨77, _⟩ => ⟨S656x1, .i32⟩
  | .hbm, ⟨78, _⟩ => ⟨S656x1024, .f32⟩
  | .hbm, ⟨79, _⟩ => ⟨S656x1x1024, .f32⟩
  | .hbm, ⟨80, _⟩ => ⟨S656x512x1024, .f32⟩
  | .hbm, ⟨81, _⟩ => ⟨S656x512x1024, .f32⟩
  | .hbm, ⟨82, _⟩ => ⟨S656, .i32⟩
  | .hbm, ⟨83, _⟩ => ⟨S656, .i32⟩
  | .hbm, ⟨84, _⟩ => ⟨S656, .i1⟩
  | .hbm, ⟨85, _⟩ => ⟨S656x1x1, .i1⟩
  | .hbm, ⟨86, _⟩ => ⟨S_, .f32⟩
  | .hbm, ⟨87, _⟩ => ⟨S_, .f32⟩
  | .hbm, ⟨88, _⟩ => ⟨S656x512x1024, .i1⟩
  | .hbm, ⟨89, _⟩ => ⟨S656x512x1024, .f32⟩
  | .hbm, ⟨90, _⟩ => ⟨S656x512x1024, .f32⟩
  | .hbm, ⟨91, _⟩ => ⟨S335872x1024, .f32⟩
  | .hbm, ⟨92, _⟩ => ⟨S335872x1024, .bf16⟩
  | _, _ => ⟨S335872x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Proof.ExpertsIdealRun.lean ====
/- The experts call at the ideal instance: what runs before the region, the tables, the blocks of the windows, and the
   body's run in its two cases: an active block (its number under the table's count), which writes the expert's
   value of its rows, and an inactive one, which writes zeros. -/
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 5 (result 0 (%4)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S656 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .bf16 := spec0_5.stage ((cfgM m hO).slots t 5)
abbrev hs0_5 (hO : Ok m) (t : Fin (cfgM m hO).N) : (ms0_5 m hO t).IsWhole := hstage0_5 (((cfgM m hO).slots t 5).cast nbuf0_5)

/-! ## The body's two cases -/

/-- Whether block `i`'s number is under the count `v`: the condition of the body's first store, -/
abbrev isActive (i : grid0.Coords) (v : BitVec 32) : Prop := k0_cond1 i v = 1#1

/-- and that of its second store is its negation. -/
theorem cond2_iff (i : grid0.Coords) (v : BitVec 32) : k0_cond2 i v = 1#1 ↔ ¬ isActive i v := by
  have key : ∀ b : Bool, BitVec.ofBool (BitVec.setWidth 32 (BitVec.ofBool b) != 0#32) = 1#1 ↔ b = true := by decide
  refine (key (v.sle (BitVec.ofNat 32 (i 0).val))).trans ((Iff.trans ?_ (not_congr (key ((BitVec.ofNat 32 (i 0).val).slt v)).symm)))
  simp [BitVec.slt, BitVec.sle]

/-- So the output's block is stored at every point, whatever the tables hold. -/
theorem never_idle (a : (pcfg0 (F := F)).Adm) (i : grid0.Coords) : (cfg0 a).idle 5 i = false := by
  show (!(k0_cond1 i (a.1.atD 1 ![0]) == 1#1) && !(k0_cond2 i (a.1.atD 1 ![0]) == 1#1)) = false
  by_cases h : isActive i (a.1.atD 1 ![0])
  · rw [show k0_cond1 i (a.1.atD 1 ![0]) = 1#1 from h]; rfl
  · rw [(cond2_iff i _).mpr h]; simp

/-- What the body writes of an active block: of its rows `x0`, of the expert's first weights and bias `x1`, `x2`, of
    its second weights and bias `x3`, `x4`. -/
def outA (x0 : Vec F S512x1024 .bf16) (x1 : Vec F S1x1024x2048 .bf16) (x2 : Vec F S1x1x2048 .f32) (x3 : Vec F S1x1024x1024 .bf16) (x4 : Vec F S1x1x1024 .f32) : Vec F S512x1024 .bf16 :=
  k0_pay1 (k0_pay3 (VecWindow.window x0 ![0, 0] S512x512.size inb_S512x1024_S512x512_0_0) (VecWindow.window x0 ![0, 512] S512x512.size inb_S512x1024_S512x512_0_512)
    (VecWindow.window x1 ![0, 0, 0] S1x512x2048.size inb_S1x1024x2048_S1x512x2048_0_0_0) (VecWindow.window x1 ![0, 512, 0] S1x512x2048.size inb_S1x1024x2048_S1x512x2048_0_512_0) x2 x3) x4

/-- The count as the body reads it off its table. -/
abbrev count (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- A load of a rectangle of a whole memref holding `x` reads that window of `x`. -/
theorem readAt_window {sp : Space} {s : Shape} {e : EltTy} {M : Memref sig .tc sp s e} (h : M.IsWhole) (x : s.Idx → Elt F e)
    {off size : Fin s.rank → ℕ} (inb : ∀ a, off a + size a ≤ s.size a) :
    View.readAt (Elt F) M.view (Rect.unit off size inb).toLoadRect (h.unread x) = VecWindow.window x off size inb :=
  funext fun _ => congrFun (h.read_unread x) _

set_option maxHeartbeats 1000000 in
/-- An active block: the body, from the staged blocks and the tables, leaves them as they were and the output at
    `outA` of them. -/
theorem runA (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
    (x0 : Vec F S512x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : isActive i (count c xt1)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outA x0 x1 x2 x3 x4) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    have hc1 : ¬ k0_cond2 i (count c xt1) = 1#1 := fun h => (cond2_iff i _).mp h hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      rw [View.read_writes_full]
      unfold runA.sl.r_1 runA.sl.r_2
      rw [readAt_window harg3, readAt_window harg3, readAt_window harg4, readAt_window harg4, View.readAt_full arg5.view,
        View.readAt_full arg6.view, View.readAt_full arg7.view, harg5.read_unread, harg6.read_unread, harg7.read_unread]
      rfl
    isplitl [HT0]; · iexact HT0
    iexact HT1

set_option maxHeartbeats 1000000 in
/-- An inactive block: the body leaves the output at zeros. -/
theorem runB (c : Dev nD) (i : grid0.Coords) (arg3 : Memref sig .tc .vmem S512x1024 .bf16) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .bf16) (harg8 : arg8.IsWhole)
    (x0 : Vec F S512x1024 .bf16) (x1 : Vec F S1x1024x2048 .bf16) (x2 : Vec F S1x1x2048 .f32) (x3 : Vec F S1x1024x1024 .bf16) (x4 : Vec F S1x1x1024 .f32) (xt0 : TbBuf0 (F := F) c tbM0_0) (xt1 : TbBuf0 (F := F) c tbM0_1) (hc0 : ¬ isActive i (count c xt1)) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay2 (F := F)) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    have hc1 : k0_cond2 i (count c xt1) = 1#1 := (cond2_iff i _).mpr hc0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      rw [View.read_writes_full]
    isplitl [HT0]; · iexact HT0
    iexact HT1

end Cert.ExpertsIdeal.Gen

end
-- ==== Proof.ExpertsIdealFrame.lean ====
/- The experts call at the ideal instance: the pipeline's proof data, its body obligation at every point, and the run of the
   whole program, whose result array is named block by block; the frame is read off it. -/
module

public import proofs.«01_k».proof.Proof.ExpertsIdealRun
public import Idealize.ShloMosaic.Lib.Claim

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- What the body leaves in the output's block at point `t`: an active block's value, or zeros. -/
def out (hO : Ok m) (c : Dev nD) (t : Fin (cfgM m hO).N) : Vec F S512x1024 .bf16 :=
  open Classical in if isActive (grid0.coords t) (count c (tbl m 1)) then outA (iblk m hO c 0 t) (iblk m hO c 1 t) (iblk m hO c 2 t) (iblk m hO c 3 t) (iblk m hO c 4 t) else k0_pay2

/-- The proof data of the one pipeline on core `c`: the arrays as the region finds them (`V`); after the body at
    point `t` each input's buffer at its block and the output's at `out`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out m hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = out m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : isActive (grid0.coords t) (count c (tbl m 1))
  · rw [show out m hO c t = _ from if_pos h0]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ (iblk m hO c 0 t) (iblk m hO c 1 t) (iblk m hO c 2 t) (iblk m hO c 3 t) (iblk m hO c 4 t) (tbl m 0) (tbl m 1) h0) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, H5, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · rw [show out m hO c t = _ from if_neg h0]
    iintro ⟨⟨HΦ, ⟨HT0, HT1⟩⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (iblk m hO c 0 t) (iblk m hO c 1 t) (iblk m hO c 2 t) (iblk m hO c 3 t) (iblk m hO c 4 t) (tbl m 0) (tbl m 1) h0) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, H5, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  have hn : (cfgM m hO).idle (5 : Fin 6) ((cfgM m hO).grid.coords t) = false := never_idle (adm m hO) _
  rw [bigSep_W0, bigSep_W0, defs₀_row m hO, hn]
  exact triple_restated (sound_body m hO c t) rfl .rfl fun _ => .rfl

/-! ## The run and the frame -/

set_option backward.isDefEq.respectTransparency.types false in
/-- THE RUN: every weakly fair execution terminates, every array of the pipeline at what its write-backs leave in it,
    every other buffer as the region found it, and every semaphore counter at zero. -/
theorem run_main_quiescent (hO : Ok m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The result array named, the arguments unchanged, the counters at zero. -/
theorem run_blocks (hO : Ok m) : θ_run defs (onTc (τ := τ) (main (F := F))) ⟨m, fun _ => 0, ρ⟩ (fun r => (∀ c : Dev nD,
      r.2.mem ((c.tc : Thread nD τ).loc main_v4) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
      ((h.1 c).1 0).trans (((dats m hO 0 c).arrAt_in 0 rfl _).trans ((A_eq m hO c 0).trans (V_main_arg0 m c))),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩)
    (run_main_quiescent m ρ hO)

/-- THE FRAME: the arguments end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).2, h.2⟩) (run_blocks m ρ hO)

end Cert.ExpertsIdeal.Gen

end
-- ==== Proof.ExpertsIdealOk.lean ====
/- The experts call at the ideal instance: where every block names one of the 32 experts, the side condition of the
   prefetched tables holds, so the frame does. -/
module

public import proofs.«01_k».proof.Proof.ExpertsIdealFrame

@[expose] public section

noncomputable section

namespace Cert.ExpertsIdeal.Gen

open Idealize.ShloMosaic Idealize.ShloMosaic.TcCoe
open Idealize.SL.Sem

variable {F : FTy → Type} [FloatOps F]
variable (m : (ℓ : Loc nD τ sig) → Buf (Elt F) ℓ)

/-- The table of the blocks' experts names experts only. -/
def Named : Prop := ∀ s : S656.Idx, BitVec.toNat (m (((0 : Dev nD) : Thread nD τ).loc main_arg1) s : BitVec 32) < 32

/-- The expert block `i` names, as the index maps read it. -/
abbrev expertAt (pf : pre0.Contents (Elt F)) (i : grid0.Coords) : BitVec 32 :=
  pf.at 0 (Rect.unit (s := S656) (k0_off1 i) S1.size (k0_off1_inb i)) numel1_S1

theorem expertAt_lt (h : Named m) (i : grid0.Coords) : (expertAt (tbl m) i).toNat < 32 := by
  show BitVec.toNat (V m 0 main_arg1 _ : BitVec 32) < 32
  rw [V_main_arg1]
  exact h _

/-- A block of one expert's slab is inside the stack of 32. -/
theorem slab_inb (e n k : ℕ) (he : e < 32) (a : Fin 3) :
    ((![e, 0, 0] : Fin 3 → ℕ) a + 1) * (![1, n, k] : Fin 3 → ℕ) a ≤ (![32, n, k] : Fin 3 → ℕ) a := by
  fin_cases a
  · show (e + 1) * 1 ≤ 32
    omega
  · show (0 + 1) * n ≤ n
    omega
  · show (0 + 1) * k ≤ k
    omega

theorem ok_of_named (h : Named m) : Ok m :=
  ⟨fun i => ⟨slab_inb _ 1024 2048 (expertAt_lt m h i), .inr (Affine.block_words_dvd (of_decide_eq_true rfl) (by decide))⟩,
    fun i => ⟨slab_inb _ 1 2048 (expertAt_lt m h i), .inl rfl⟩,
    fun i => ⟨slab_inb _ 1024 1024 (expertAt_lt m h i), .inr (Affine.block_words_dvd (of_decide_eq_true rfl) (by decide))⟩,
    fun i => ⟨slab_inb _ 1 1024 (expertAt_lt m h i), .inl rfl⟩⟩

end Cert.ExpertsIdeal.Gen

end
-- ==== Proof.ExpertsMath.lean ====
/- One block of rows through one expert, over the extended reals, and the kernel's body at the ideal instance as that. -/
module

public import proofs.«01_k».proof.Proof.ExpertsIdealOk
public import Idealize.ShloMosaic.Lib.Pointwise

@[expose] public section

set_option maxRecDepth 16384

noncomputable section

namespace Cert.ExpertsIdeal.Math

open Cert.ExpertsIdeal Cert.ExpertsIdeal.Gen Idealize.ShloMosaic Idealize.ShloMosaic.TcCoe Idealize.ShloMosaic.Tactic

/-! ## The mathematics -/

/-- An entry of the first product, with its bias. -/
def hidden (x : Fin 1024 → EReal) (w : Fin 1024 → EReal) (b : EReal) : EReal := (∑ k, x k * w k) + b

/-- The gated unit: `g` and `u` clamped at 7, `g · σ(1.702 g) · (u + 1)`. -/
def gated (g u : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) u) + 1)

def loC (l : Fin 1024) : Fin 2048 := ⟨l.val, by omega⟩
def hiC (l : Fin 1024) : Fin 2048 := ⟨1024 + l.val, by omega⟩

/-- An entry of the block's result: the row `x` through the expert with weights `w1`, `w2` and biases `b1`, `b2`. -/
def ffn (x : Fin 1024 → EReal) (w1 : Fin 1024 → Fin 2048 → EReal) (b1 : Fin 2048 → EReal) (w2 : Fin 1024 → EReal) (b2 : EReal) : EReal :=
  (∑ l : Fin 1024, gated (hidden x (fun k => w1 k (loC l)) (b1 (loC l))) (hidden x (fun k => w1 k (hiC l)) (b1 (hiC l))) * w2 l) + b2

/-! ## The body's value -/

def hidK (xl xr : FVec Ideal S512x512 .bf16) (wl wr : FVec Ideal S1x512x2048 .bf16) (b : FVec Ideal S1x1x2048 .f32) : FVec Ideal S512x2048 .f32 :=
  addf (addf (matmul dot_S512x512_S512x2048_S512x2048_1_0_0_1_n_n none xl (shapeCast S512x2048 wl shapeCasts_S1x512x2048_S512x2048) (constant S512x2048 .f32 0x00000000#32))
    (matmul dot_S512x512_S512x2048_S512x2048_1_0_0_1_n_n none xr (shapeCast S512x2048 wr shapeCasts_S1x512x2048_S512x2048) (constant S512x2048 .f32 0x00000000#32)))
    (broadcastTo S512x2048 (shapeCast S1x2048 b shapeCasts_S1x1x2048_S1x2048) broadcasts_S1x2048_S512x2048)

def gateK (h : FVec Ideal S512x2048 .f32) : FVec Ideal S512x1024 .f32 :=
  minimumf (extractStridedSlice S512x1024 ![0, 0] h slices_S512x2048_o0_0_S512x1024) (broadcast S512x1024 (Scalar.ofBits .f32 0x40E00000#32))
def upK (h : FVec Ideal S512x2048 .f32) : FVec Ideal S512x1024 .f32 :=
  minimumf (broadcast S512x1024 (Scalar.ofBits .f32 0x40E00000#32)) (maximumf (broadcast S512x1024 (Scalar.ofBits .f32 0xC0E00000#32))
    (extractStridedSlice S512x1024 ![0, 1024] h slices_S512x2048_o0_1024_S512x1024))
def actK (h : FVec Ideal S512x2048 .f32) : FVec Ideal S512x1024 .f32 :=
  mulf (mulf (gateK h) (logistic (mulf (broadcast S512x1024 (Scalar.ofBits .f32 0x3FD9DB23#32)) (gateK h)))) (addf (upK h) (broadcast S512x1024 (Scalar.ofBits .f32 0x3F800000#32)))

def outK (a : FVec Ideal S512x1024 .f32) (w : FVec Ideal S1x1024x1024 .bf16) (b : FVec Ideal S1x1x1024 .f32) : FVec Ideal S512x1024 .bf16 :=
  truncf .bf16 (addf (matmul dot_S512x1024_S1024x1024_S512x1024_1_0_0_1_n_n none (truncf .bf16 a bitsLt_bf16_f32) (shapeCast S1024x1024 w shapeCasts_S1x1024x1024_S1024x1024) (constant S512x1024 .f32 0x00000000#32))
    (broadcastTo S512x1024 (shapeCast S1x1024 b shapeCasts_S1x1x1024_S1x1024) broadcasts_S1x1024_S512x1024)) bitsLt_bf16_f32

theorem pay_eq (xl xr : FVec Ideal S512x512 .bf16) (wl wr : FVec Ideal S1x512x2048 .bf16) (b1 : FVec Ideal S1x1x2048 .f32)
    (w2 : FVec Ideal S1x1024x1024 .bf16) (b2 : FVec Ideal S1x1x1024 .f32) :
    k0_pay1 (k0_pay3 xl xr wl wr b1 w2) b2 = outK (actK (hidK xl xr wl wr b1)) w2 b2 := rfl

theorem hidK_at (xl xr : FVec Ideal S512x512 .bf16) (wl wr : FVec Ideal S1x512x2048 .bf16) (b : FVec Ideal S1x1x2048 .f32) (i : Fin 512) (l : Fin 2048) :
    hidK xl xr wl wr b (ix2 i l) = (∑ k : Fin 512, xl (ix2 i k) * wl (ix3 0 k l)) + (∑ k : Fin 512, xr (ix2 i k) * wr (ix3 0 k l)) + b (ix3 0 0 l) := by
  pointwise [hidK]

theorem actK_at (h : FVec Ideal S512x2048 .f32) (i : Fin 512) (l : Fin 1024) : actK h (ix2 i l) = gated (h (ix2 i (loC l))) (h (ix2 i (hiC l))) := by
  pointwise [actK, gateK, upK]
  rfl

theorem outK_at (a : FVec Ideal S512x1024 .f32) (w : FVec Ideal S1x1024x1024 .bf16) (b : FVec Ideal S1x1x1024 .f32) (i : Fin 512) (j : Fin 1024) :
    outK a w b (ix2 i j) = (∑ l : Fin 1024, a (ix2 i l) * w (ix3 0 l j)) + b (ix3 0 0 j) := by
  pointwise [outK]

/-- A sum over 1024 as the sums over its two halves. -/
theorem halves (f : Fin 1024 → EReal) : (∑ k : Fin 512, f ⟨k.val, by omega⟩) + (∑ k : Fin 512, f ⟨512 + k.val, by omega⟩) = ∑ k, f k :=
  (Fin.sum_univ_add (a := 512) (b := 512) f).symm

theorem unit_emb {s : Shape} (off size : Fin s.rank → ℕ) (inb) (j : (Rect.unit off size inb).shape.Idx) (a : Fin s.rank) :
    ((Rect.unit off size inb).emb j a : ℕ) = off a + j a := by
  rw [Rect.emb_apply]
  show off a + 1 * (j a : ℕ) = _
  omega

theorem outA_at (x0 : FVec Ideal S512x1024 .bf16) (x1 : FVec Ideal S1x1024x2048 .bf16) (x2 : FVec Ideal S1x1x2048 .f32) (x3 : FVec Ideal S1x1024x1024 .bf16) (x4 : FVec Ideal S1x1x1024 .f32)
    (i : Fin 512) (j : Fin 1024) :
    outA (F := Ideal) x0 x1 x2 x3 x4 (ix2 i j)
      = ffn (fun k => x0 (ix2 i k)) (fun k l => x1 (ix3 0 k l)) (fun l => x2 (ix3 0 0 l)) (fun l => x3 (ix3 0 l j)) (x4 (ix3 0 0 j)) := by
  unfold outA
  rw [pay_eq, outK_at]
  unfold ffn
  refine congrArg (· + _) (Finset.sum_congr rfl fun l _ => congrArg (· * _) ?_)
  rw [actK_at]
  have h : ∀ l, hidK (VecWindow.window x0 ![0, 0] S512x512.size inb_S512x1024_S512x512_0_0) (VecWindow.window x0 ![0, 512] S512x512.size inb_S512x1024_S512x512_0_512)
      (VecWindow.window x1 ![0, 0, 0] S1x512x2048.size inb_S1x1024x2048_S1x512x2048_0_0_0) (VecWindow.window x1 ![0, 512, 0] S1x512x2048.size inb_S1x1024x2048_S1x512x2048_0_512_0) x2 (ix2 i l)
      = hidden (fun k => x0 (ix2 i k)) (fun k => x1 (ix3 0 k l)) (x2 (ix3 0 0 l)) := by
    intro l
    rw [hidK_at]
    unfold hidden
    rw [← halves]
    refine congrArg (· + _) (congrArg₂ (· + ·) (Finset.sum_congr rfl fun k _ => congrArg₂ (· * ·) (congrArg x0 ?_) (congrArg x1 ?_))
      (Finset.sum_congr rfl fun k _ => congrArg₂ (· * ·) (congrArg x0 ?_) (congrArg x1 ?_)))
    all_goals
      funext a
      refine Fin.ext ((unit_emb _ _ _ _ a).trans ?_)
      fin_cases a <;> simp
  rw [h, h]

theorem idle_at (y : S512x1024.Idx) : k0_pay2 (F := Ideal) y = 0 := by
  unfold k0_pay2
  pointwise []

end Cert.ExpertsIdeal.Math

end
-- ==== Proof.ExpertsValue.lean ====
/- The experts call at the ideal instance: the blocks its points load, and the result array entry by entry. -/
module

public import proofs.«01_k».proof.Proof.ExpertsMath
public import Idealize.ShloMosaic.Lib.WordCmp
public import Idealize.ShloMosaic.Lib.StableHlo.RunRead
public import Idealize.ShloMosaic.Lib.Pipeline.ValueKit
public import Idealize.ShloMosaic.Lib.Pipeline.Covers

@[expose] public section

set_option maxRecDepth 16384

noncomputable section

namespace Cert.ExpertsIdeal.Math

open Cert.ExpertsIdeal Cert.ExpertsIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## What the region finds in the arrays the host prepares -/

theorem V_v0 (c : Dev nD) : V m c main_v0 = (truncf .bf16 (m ((c : Thread nD τ).loc main_arg3) : FVec Ideal S32x1024x2048 .f32) bitsLt_bf16_f32 : FVec Ideal S32x1024x2048 .bf16) := by
  simp only [V, hostOps0]
  after_reads_simp
theorem V_v1 (c : Dev nD) : V m c main_v1 = (shapeCast S32x1x2048 (m ((c : Thread nD τ).loc main_arg4) : FVec Ideal S32x2048 .f32) shapeCasts_S32x2048_S32x1x2048 : FVec Ideal S32x1x2048 .f32) := by
  simp only [V, hostOps0]
  after_reads_simp
  rfl
theorem V_v2 (c : Dev nD) : V m c main_v2 = (truncf .bf16 (m ((c : Thread nD τ).loc main_arg5) : FVec Ideal S32x1024x1024 .f32) bitsLt_bf16_f32 : FVec Ideal S32x1024x1024 .bf16) := by
  simp only [V, hostOps0]
  after_reads_simp
theorem V_v3 (c : Dev nD) : V m c main_v3 = (shapeCast S32x1x1024 (m ((c : Thread nD τ).loc main_arg6) : FVec Ideal S32x1024 .f32) shapeCasts_S32x1024_S32x1x1024 : FVec Ideal S32x1x1024 .f32) := by
  simp only [V, hostOps0]
  after_reads_simp
  rfl

/-! ## The points and the experts they name -/

theorem coord0 : ∀ t : Fin grid0.N, (grid0.coords t 0).val = t.val := by decide +kernel
theorem N_eq : grid0.N = 656 := by decide +kernel

/-- The block of a point. -/
def pt (t : Fin grid0.N) : Fin 656 := ⟨t.val, N_eq ▸ t.isLt⟩

variable {m} in
/-- The expert a block names. -/
def tabE (hN : Named m) (s : Fin 656) : Fin 32 := ⟨BitVec.toNat (m (((0 : Dev nD) : Thread nD τ).loc main_arg1) (ix1 s) : BitVec 32), hN _⟩

theorem off1 (t : Fin grid0.N) (a : Fin 1) : k0_off1 (grid0.coords t) a = t.val := by
  have h := coord0 t
  have hl : t.val < 656 := N_eq ▸ t.isLt
  fin_cases a
  show (BitVec.ofNat 32 (grid0.coords t 0).val).toNat = t.val
  rw [h, BitVec.toNat_ofNat]
  omega

theorem expert_eq (hN : Named m) (t : Fin grid0.N) : (expertAt (tbl m) (grid0.coords t)).toNat = (tabE hN (pt t)).val := by
  show BitVec.toNat (V m 0 main_arg1 _ : BitVec 32) = BitVec.toNat (m (((0 : Dev nD) : Thread nD τ).loc main_arg1) (ix1 (pt t)) : BitVec 32)
  rw [V_main_arg1]
  refine congrArg (fun y => BitVec.toNat (m (((0 : Dev nD) : Thread nD τ).loc main_arg1) y : BitVec 32)) (funext fun a => Fin.ext ?_)
  refine (unit_emb _ _ _ _ a).trans ?_
  refine (congrArg (· + _) (off1 t a)).trans ?_
  have ha : a = (0 : Fin 1) := Subsingleton.elim (α := Fin 1) _ _
  subst ha
  rfl

/-! ## The blocks -/

/-- A row of a block, in the whole array. -/
def rowOf (s : Fin 656) (i : Fin 512) : Fin 335872 := ⟨512 * s.val + i.val, by omega⟩

variable (hO : Ok m) (hN : Named m) (c : Dev nD) (t : Fin grid0.N)

theorem blk0 (i : Fin 512) (k : Fin 1024) : iblk m hO c 0 t (ix2 i k : S512x1024.Idx) = m ((c : Thread nD τ).loc main_arg0) (ix2 (rowOf (pt t) i) k : S335872x1024.Idx) := by
  refine (congrFun (V_main_arg0 m c) _).trans (congrArg (m ((c : Thread nD τ).loc main_arg0)) (funext fun a => Fin.ext ?_))
  refine (Pipeline.Window.rect_emb_val ((cfgM m hO).win 0) t (ix2 i k) a rfl).trans ?_
  have h := coord0 t
  have e : BitVec.toNat (BitVec.ofNat 32 (grid0.coords t 0).val) = t.val := off1 t 0
  fin_cases a
  · show BitVec.toNat (BitVec.ofNat 32 (grid0.coords t 0).val) * 512 + i.val = 512 * t.val + i.val
    omega
  · show 0 * 1024 + k.val = k.val
    omega

theorem blk1 (k : Fin 1024) (l : Fin 2048) : iblk m hO c 1 t (ix3 0 k l : S1x1024x2048.Idx) = m ((c : Thread nD τ).loc main_arg3) (ix3 (tabE hN (pt t)) k l : S32x1024x2048.Idx) := by
  refine (congrFun (V_v0 m c) _).trans (congrArg (m ((c : Thread nD τ).loc main_arg3)) (funext fun a => Fin.ext ?_))
  refine (Pipeline.Window.rect_emb_val ((cfgM m hO).win 1) t (ix3 0 k l) a rfl).trans ?_
  have h := expert_eq m hN t
  fin_cases a
  · show (expertAt (tbl m) (grid0.coords t)).toNat * 1 + 0 = (tabE hN (pt t)).val
    omega
  · show 0 * 1024 + k.val = k.val
    omega
  · show 0 * 2048 + l.val = l.val
    omega

theorem blk2 (l : Fin 2048) : iblk m hO c 2 t (ix3 0 0 l : S1x1x2048.Idx) = m ((c : Thread nD τ).loc main_arg4) (ix2 (tabE hN (pt t)) l : S32x2048.Idx) := by
  refine (congrFun (V_v1 m c) _).trans ?_
  have h := expert_eq m hN t
  have e : (((cfgM m hO).win 2).blk t).view.emb (ix3 0 0 l : S1x1x2048.Idx) = (ix3 (tabE hN (pt t)) 0 l : S32x1x2048.Idx) := by
    refine funext fun a => Fin.ext ?_
    refine (Pipeline.Window.rect_emb_val ((cfgM m hO).win 2) t (ix3 0 0 l) a rfl).trans ?_
    fin_cases a
    · show (expertAt (tbl m) (grid0.coords t)).toNat * 1 + 0 = (tabE hN (pt t)).val
      omega
    · show 0 * 1 + 0 = 0
      omega
    · show 0 * 2048 + l.val = l.val
      omega
  refine (congrArg (shapeCast S32x1x2048 (m ((c : Thread nD τ).loc main_arg4) : FVec Ideal S32x2048 .f32) shapeCasts_S32x2048_S32x1x2048) e).trans ?_
  pointwise []

theorem blk3 (l : Fin 1024) (j : Fin 1024) : iblk m hO c 3 t (ix3 0 l j : S1x1024x1024.Idx) = m ((c : Thread nD τ).loc main_arg5) (ix3 (tabE hN (pt t)) l j : S32x1024x1024.Idx) := by
  refine (congrFun (V_v2 m c) _).trans (congrArg (m ((c : Thread nD τ).loc main_arg5)) (funext fun a => Fin.ext ?_))
  refine (Pipeline.Window.rect_emb_val ((cfgM m hO).win 3) t (ix3 0 l j) a rfl).trans ?_
  have h := expert_eq m hN t
  fin_cases a
  · show (expertAt (tbl m) (grid0.coords t)).toNat * 1 + 0 = (tabE hN (pt t)).val
    omega
  · show 0 * 1024 + l.val = l.val
    omega
  · show 0 * 1024 + j.val = j.val
    omega

theorem blk4 (j : Fin 1024) : iblk m hO c 4 t (ix3 0 0 j : S1x1x1024.Idx) = m ((c : Thread nD τ).loc main_arg6) (ix2 (tabE hN (pt t)) j : S32x1024.Idx) := by
  refine (congrFun (V_v3 m c) _).trans ?_
  have h := expert_eq m hN t
  have e : (((cfgM m hO).win 4).blk t).view.emb (ix3 0 0 j : S1x1x1024.Idx) = (ix3 (tabE hN (pt t)) 0 j : S32x1x1024.Idx) := by
    refine funext fun a => Fin.ext ?_
    refine (Pipeline.Window.rect_emb_val ((cfgM m hO).win 4) t (ix3 0 0 j) a rfl).trans ?_
    fin_cases a
    · show (expertAt (tbl m) (grid0.coords t)).toNat * 1 + 0 = (tabE hN (pt t)).val
      omega
    · show 0 * 1 + 0 = 0
      omega
    · show 0 * 1024 + j.val = j.val
      omega
  refine (congrArg (shapeCast S32x1x1024 (m ((c : Thread nD τ).loc main_arg6) : FVec Ideal S32x1024 .f32) shapeCasts_S32x1024_S32x1x1024) e).trans ?_
  pointwise []

/-! ## The result array -/

/-- The result array: a row of an active block through its block's expert, zero elsewhere. -/
def result (x : FVec Ideal S335872x1024 .bf16) (e : Fin 656 → Fin 32) (n : BitVec 32) (w1 : FVec Ideal S32x1024x2048 .f32) (b1 : FVec Ideal S32x2048 .f32)
    (w2 : FVec Ideal S32x1024x1024 .f32) (b2 : FVec Ideal S32x1024 .f32) (s : Fin 656) (i : Fin 512) (j : Fin 1024) : EReal :=
  if (BitVec.ofNat 32 s.val).slt n then
    ffn (fun k => x (ix2 (rowOf s i) k)) (fun k l => w1 (ix3 (e s) k l)) (fun l => b1 (ix2 (e s) l)) (fun l => w2 (ix3 (e s) l j)) (b2 (ix2 (e s) j))
  else 0

/-- The block of a row and its place there. -/
def blkOf (r : Fin 335872) : Fin 656 := ⟨r.val / 512, by omega⟩
def inBlk (r : Fin 335872) : Fin 512 := ⟨r.val % 512, by omega⟩

/-- The kernel's result from the launch memory. -/
def resultK (y : S335872x1024.Idx) : Elt Ideal .bf16 :=
  result (m ((c : Thread nD τ).loc main_arg0)) (tabE hN) (m ((c : Thread nD τ).loc main_arg2) (ix1 0 : S1.Idx)) (m ((c : Thread nD τ).loc main_arg3)) (m ((c : Thread nD τ).loc main_arg4))
    (m ((c : Thread nD τ).loc main_arg5)) (m ((c : Thread nD τ).loc main_arg6)) (blkOf (y 0)) (inBlk (y 0)) (y 1)

theorem active_iff (i : grid0.Coords) (v : BitVec 32) : isActive i v ↔ (BitVec.ofNat 32 (i 0).val).slt v = true := by
  show Scalar.cmpi .ne (Scalar.extui (Scalar.cmpi .slt (BitVec.ofNat 32 (i 0).val) v)) 0#32 = 1#1 ↔ _
  have key : ∀ b : Bool, Scalar.cmpi .ne (Scalar.extui (BitVec.ofBool b) : BitVec 32) 0#32 = 1#1 ↔ b = true := by decide
  exact key _

theorem count_eq : count c (tbl m 1) = (m ((c : Thread nD τ).loc main_arg2) (ix1 0 : S1.Idx) : BitVec 32) := by
  obtain rfl : c = 0 := Subsingleton.elim _ _
  show V m 0 main_arg2 _ = _
  rw [V_main_arg2]
  refine congrArg (m (((0 : Dev nD) : Thread nD τ).loc main_arg2)) (funext fun a => Fin.ext ?_)
  have ha : a = (0 : Fin 1) := Subsingleton.elim (α := Fin 1) _ _
  subst ha
  rfl

theorem ffn_congr {x x' : Fin 1024 → EReal} {w1 w1' : Fin 1024 → Fin 2048 → EReal} {b1 b1' : Fin 2048 → EReal} {w2 w2' : Fin 1024 → EReal} {b2 b2' : EReal}
    (hx : ∀ k, x k = x' k) (h1 : ∀ k l, w1 k l = w1' k l) (hb : ∀ l, b1 l = b1' l) (h2 : ∀ l, w2 l = w2' l) (hb2 : b2 = b2') :
    ffn x w1 b1 w2 b2 = ffn x' w1' b1' w2' b2' := by
  obtain rfl : x = x' := funext hx
  obtain rfl : w1 = w1' := funext fun k => funext (h1 k)
  obtain rfl : b1 = b1' := funext hb
  obtain rfl : w2 = w2' := funext h2
  rw [hb2]

theorem out_at (i : Fin 512) (j : Fin 1024) : out m hO c t (ix2 i j)
    = result (m ((c : Thread nD τ).loc main_arg0)) (tabE hN) (m ((c : Thread nD τ).loc main_arg2) (ix1 0 : S1.Idx)) (m ((c : Thread nD τ).loc main_arg3)) (m ((c : Thread nD τ).loc main_arg4))
      (m ((c : Thread nD τ).loc main_arg5)) (m ((c : Thread nD τ).loc main_arg6)) (pt t) i j := by
  have ha : isActive (grid0.coords t) (count c (tbl m 1)) ↔ (BitVec.ofNat 32 (pt t).val).slt (m ((c : Thread nD τ).loc main_arg2) (ix1 0 : S1.Idx) : BitVec 32) = true := by
    rw [active_iff, count_eq m c, coord0]
    rfl
  unfold out result
  by_cases h : isActive (grid0.coords t) (count c (tbl m 1))
  · rw [if_pos h, if_pos (ha.mp h)]
    exact (outA_at _ _ _ _ _ i j).trans (ffn_congr (blk0 m hO c t i) (blk1 m hO hN c t) (blk2 m hO hN c t) (fun l => blk3 m hO hN c t l j) (blk4 m hO hN c t j))
  · rw [if_neg h, if_neg (fun h' => h (ha.mpr h'))]
    exact idle_at _

theorem out_row (i : Fin 512) (j : Fin 1024) : out m hO c t (ix2 i j) = resultK m hN c (ix2 (rowOf (pt t) i) j : S335872x1024.Idx) := by
  have e1 : blkOf (rowOf (pt t) i) = pt t := Fin.ext (by simp only [blkOf, rowOf]; omega)
  have e2 : inBlk (rowOf (pt t) i) = i := Fin.ext (by simp only [inBlk, rowOf]; omega)
  rw [out_at m hO hN c t]
  show _ = result _ _ _ _ _ _ _ (blkOf (rowOf (pt t) i)) (inBlk (rowOf (pt t) i)) j
  rw [e1, e2]

theorem nblk0 (β : (a : Fin ((cfgM m hO).win 5).shape.rank) → Fin (((cfgM m hO).win 5).nblk a)) : (β (0 : Fin 2)).val < 656 ∧ (β (1 : Fin 2)).val < 1 :=
  ⟨lt_of_lt_of_eq (β (0 : Fin 2)).isLt (show (335872 + 512 - 1) / 512 = 656 by norm_num), lt_of_lt_of_eq (β (1 : Fin 2)).isLt (show (1024 + 1024 - 1) / 1024 = 1 by norm_num)⟩

theorem idx_block (y : S512x1024.Idx) : ∃ (i : Fin 512) (j : Fin 1024), y = ix2 i j :=
  ⟨y 0, y 1, funext fun a => by fin_cases a <;> rfl⟩

theorem final : (dats m hO 0 c).arrAt 5 (cfgM m hO).N = resultK m hN c := by
  refine (dats m hO 0 c).arrAt_eq_of_covers 5 _ ?_ fun t hf y => ?_
  · refine Pipeline.Window.covers_of_index_surj _ rfl (fun a => by fin_cases a <;> exact Nat.zero_lt_succ _) fun β => ?_
    have hb := nblk0 m hO β
    refine ⟨⟨(β (0 : Fin 2)).val, N_eq.symm ▸ hb.1⟩, fun a => ?_⟩
    have e : BitVec.toNat (BitVec.ofNat 32 (grid0.coords ⟨(β (0 : Fin 2)).val, N_eq.symm ▸ hb.1⟩ 0).val) = (β (0 : Fin 2)).val := off1 _ 0
    fin_cases a
    · exact e
    · show 0 = (β (1 : Fin 2)).val
      omega
  · rw [after0_5]
    obtain ⟨i, j, rfl⟩ := idx_block y
    have e : (((cfgM m hO).win 5).blk t).view.emb (ix2 i j : S512x1024.Idx) = (ix2 (rowOf (pt t) i) j : S335872x1024.Idx) := by
      refine funext fun a => Fin.ext ?_
      refine (Pipeline.Window.rect_emb_val ((cfgM m hO).win 5) t (ix2 i j) a rfl).trans ?_
      have e : BitVec.toNat (BitVec.ofNat 32 (grid0.coords t 0).val) = t.val := off1 t 0
      fin_cases a
      · show BitVec.toNat (BitVec.ofNat 32 (grid0.coords t 0).val) * 512 + i.val = 512 * t.val + i.val
        omega
      · show 0 * 1024 + j.val = j.val
        omega
    refine Eq.trans ?_ (congrArg (resultK m hN c) e).symm
    refine (cast_eq _ _).trans ?_
    exact out_row m hO hN c t i j

end Cert.ExpertsIdeal.Math

end
-- ==== Proof.ExpertsRef.lean ====
/- The experts' reference at the ideal instance, entry by entry. -/
module

public import proofs.«01_k».proof.Proof.ExpertsValue
public import proofs.«01_k».proof.Proof.Gen.ExpertsReferenceIdeal
public import proofs.«01_k».proof.Proof.Gen.ExpertsReferenceIdeal.Run
public import Idealize.ShloMosaic.Lib.Pointwise

@[expose] public section

set_option maxRecDepth 16384

noncomputable section

namespace Cert.ExpertsReferenceIdeal.Math

open Cert.ExpertsReferenceIdeal Cert.ExpertsReferenceIdeal.Gen Idealize.ShloMosaic Idealize.ShloMosaic.TcCoe Idealize.ShloMosaic.Tactic
open Cert.ExpertsIdeal.Math (hidden gated ffn loC hiC rowOf blkOf inBlk result)

/-! ## The reference's steps by name -/

/-- The table as the gathers read it, a negative entry counted from the end. -/
def wrapE (e : IVec S656 32) : IVec S656x1 32 :=
  broadcastInDim S656x1 ![0] bcast_S656_S656x1_0 (select (cmpi .slt e (broadcastInDim S656 ![] bcast_S_S656 (constantI S_ 32 0#32)))
    (addi e (broadcastInDim S656 ![] bcast_S_S656 (constantI S_ 32 32#32))) e)

/-- The first products with their biases. -/
def hidR (x : FVec Ideal S335872x1024 .bf16) (e : IVec S656 32) (w1 : FVec Ideal S32x1024x2048 .f32) (b1 : FVec Ideal S32x2048 .f32) : FVec Ideal S656x512x2048 .f32 :=
  addf (Host.dotGeneral (φ₁ := .f32) dot_S656x512x1024_S656x1024x2048_S656x512x2048_2_1_1_2_0_0 none (shapeCast S656x512x1024 (extf .f32 x bitsLt_bf16_f32) shapeCasts_S335872x1024_S656x512x1024)
      (Host.gather gather_S32x1024x2048_S656x1_S656x1024x2048_12_0_n_n_0_1_110242048 w1 (wrapE e)))
    (broadcastInDim S656x512x2048 ![0, 1, 2] bcast_S656x1x2048_S656x512x2048_0_1_2 (broadcastInDim S656x1x2048 ![0, 2] bcast_S656x2048_S656x1x2048_0_2
      (Host.gather gather_S32x2048_S656x1_S656x2048_1_0_n_n_0_1_12048 b1 (wrapE e))))

def splat (b : BitVec 32) : FVec Ideal S656x512x1024 .f32 := broadcastInDim S656x512x1024 ![] bcast_S_S656x512x1024 (constant S_ .f32 b)

def gateR (h : FVec Ideal S656x512x2048 .f32) : FVec Ideal S656x512x1024 .f32 :=
  minimumf (extractStridedSlice S656x512x1024 ![0, 0, 0] h slices_S656x512x2048_S656x512x1024_0_0_0) (splat 0x40E00000#32)
def upR (h : FVec Ideal S656x512x2048 .f32) : FVec Ideal S656x512x1024 .f32 :=
  minimumf (splat 0x40E00000#32) (maximumf (splat 0xC0E00000#32) (extractStridedSlice S656x512x1024 ![0, 0, 1024] h slices_S656x512x2048_S656x512x1024_0_0_1024))
def actR (h : FVec Ideal S656x512x2048 .f32) : FVec Ideal S656x512x1024 .f32 :=
  mulf (mulf (gateR h) (Host.divf (splat 0x3F800000#32) (addf (splat 0x3F800000#32) (Host.exp (Host.negf (mulf (splat 0x3FD9DB23#32) (gateR h)))))))
    (addf (upR h) (splat 0x3F800000#32))

def prodR (a : FVec Ideal S656x512x1024 .f32) (e : IVec S656 32) (w2 : FVec Ideal S32x1024x1024 .f32) (b2 : FVec Ideal S32x1024 .f32) : FVec Ideal S656x512x1024 .f32 :=
  addf (Host.dotGeneral (φ₁ := .f32) dot_S656x512x1024_S656x1024x1024_S656x512x1024_2_1_1_2_0_0 none a
      (Host.gather gather_S32x1024x1024_S656x1_S656x1024x1024_12_0_n_n_0_1_110241024 w2 (wrapE e)))
    (broadcastInDim S656x512x1024 ![0, 1, 2] bcast_S656x1x1024_S656x512x1024_0_1_2 (broadcastInDim S656x1x1024 ![0, 2] bcast_S656x1024_S656x1x1024_0_2
      (Host.gather gather_S32x1024_S656x1_S656x1024_1_0_n_n_0_1_11024 b2 (wrapE e))))

def outR (n : IVec S1 32) (z : FVec Ideal S656x512x1024 .f32) : FVec Ideal S335872x1024 .bf16 :=
  truncf .bf16 (shapeCast S335872x1024 (select (broadcastInDim S656x512x1024 ![0, 1, 2] bcast_S656x1x1_S656x512x1024_0_1_2 (broadcastInDim S656x1x1 ![0] bcast_S656_S656x1x1_0
      (cmpi .slt (iotaInDim S656 32 0) (broadcastInDim S656 ![0] bcast_S1_S656_0 n)))) z (splat 0x00000000#32)) shapeCasts_S656x512x1024_S335872x1024) bitsLt_bf16_f32

variable (m : (ℓ : Loc nD τ sig) → Buf (Elt Ideal) ℓ) (c : Dev nD)

theorem res_eq : Value.res_main_v61 m c = outR (m ((c : Thread nD τ).loc main_arg2))
    (prodR (actR (hidR (m ((c : Thread nD τ).loc main_arg0)) (m ((c : Thread nD τ).loc main_arg1)) (m ((c : Thread nD τ).loc main_arg3)) (m ((c : Thread nD τ).loc main_arg4))))
      (m ((c : Thread nD τ).loc main_arg1)) (m ((c : Thread nD τ).loc main_arg5)) (m ((c : Thread nD τ).loc main_arg6))) := rfl

/-! ## Entry by entry -/

theorem wrapE_at (e : IVec S656 32) (s : Fin 656) (h : (e (ix1 s)).toNat < 32) : wrapE e (ix2 s 0) = e (ix1 s) := by
  pointwise [wrapE]
  have key : ∀ b : BitVec 32, b.toNat < 32 → IntOp.cmpi .slt b 0#32 = 0#1 := by
    intro b hb
    have hi : b.toInt = (b.toNat : ℤ) := BitVec.toInt_eq_toNat_of_lt (by omega)
    have hn : b.slt 0#32 = false := by
      rw [BitVec.slt_eq_decide, hi]
      simp
    show BitVec.ofBool (b.slt 0#32) = 0#1
    rw [hn]; rfl
  rw [key _ h]
  rfl

/-- An index in range, read signed and cut to the range, is itself. -/
theorem start_lt (b : BitVec 32) (e : Fin 32) (h : b.toNat = e.val) : min b.toInt.toNat (32 - 1) = e.val := by
  have hi : b.toInt = (b.toNat : ℤ) := BitVec.toInt_eq_toNat_of_lt (by omega)
  rw [hi, h]
  show min e.val (32 - 1) = e.val
  omega

/-- The gather of whole slabs of a stack of 32 matrices. -/
abbrev slabs (A B : ℕ) (wf : GatherDims.WF ⟨3, ![32, A, B]⟩ S656x1 ⟨3, ![656, A, B]⟩ [1, 2] [0] [] [0] [] 1 ![1, A, B]) :
    GatherDims ⟨3, ![32, A, B]⟩ S656x1 ⟨3, ![656, A, B]⟩ where
  offsetDims := [1, 2]
  collapsedSliceDims := [0]
  operandBatchingDims := []
  startIndicesBatchingDims := []
  startIndexMap := [0]
  indexVectorDim := 1
  sliceSizes := ![1, A, B]
  wf := wf

theorem slabs_at {A B : ℕ} (wf) (w : FVec Ideal ⟨3, ![32, A, B]⟩ .f32) (i : IVec S656x1 32) (s : Fin 656) (k : Fin A) (l : Fin B) (e : Fin 32)
    (h : (i (ix2 s 0)).toNat = e.val) : Host.gather (slabs A B wf) w i (ix3 s k l) = w (ix3 e k l) := by
  unfold Host.gather
  refine congrArg w (funext fun a => Fin.ext ?_)
  show (slabs A B wf).start (ix3 s k l) i a + (slabs A B wf).batchCoord (ix3 s k l) a + (slabs A B wf).offCoord (ix3 s k l) a = _
  rw [GatherDims.batchCoord_eq_zero _ _ _ List.not_mem_nil, Nat.add_zero]
  have ha : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabs A B wf).startIndexMap from List.mem_singleton.mpr rfl)]
    have hsi : (slabs A B wf).siIdx (ix3 s k l) ⟨List.idxOf (0 : Fin 3) (slabs A B wf).startIndexMap, List.idxOf_lt_length_iff.2 (List.mem_singleton.mpr rfl)⟩ = ix2 s 0 := by
      funext b
      refine Fin.ext ?_
      match b with
      | ⟨0, _⟩ => rfl
      | ⟨1, _⟩ => rfl
    rw [hsi]
    exact start_lt _ e h
  · unfold GatherDims.start
    rw [dif_neg (show (1 : Fin 3) ∉ (slabs A B wf).startIndexMap from (by decide : (1 : Fin 3) ∉ ([0] : List (Fin 3)))), Nat.zero_add]
    rfl
  · unfold GatherDims.start
    rw [dif_neg (show (2 : Fin 3) ∉ (slabs A B wf).startIndexMap from (by decide : (2 : Fin 3) ∉ ([0] : List (Fin 3)))), Nat.zero_add]
    rfl

/-- The gather of whole rows of a matrix of 32. -/
abbrev rows (A : ℕ) (wf : GatherDims.WF ⟨2, ![32, A]⟩ S656x1 ⟨2, ![656, A]⟩ [1] [0] [] [0] [] 1 ![1, A]) :
    GatherDims ⟨2, ![32, A]⟩ S656x1 ⟨2, ![656, A]⟩ where
  offsetDims := [1]
  collapsedSliceDims := [0]
  operandBatchingDims := []
  startIndicesBatchingDims := []
  startIndexMap := [0]
  indexVectorDim := 1
  sliceSizes := ![1, A]
  wf := wf

theorem rows_at {A : ℕ} (wf) (w : FVec Ideal ⟨2, ![32, A]⟩ .f32) (i : IVec S656x1 32) (s : Fin 656) (l : Fin A) (e : Fin 32)
    (h : (i (ix2 s 0)).toNat = e.val) : Host.gather (rows A wf) w i (ix2 s l) = w (ix2 e l) := by
  unfold Host.gather
  refine congrArg w (funext fun a => Fin.ext ?_)
  show (rows A wf).start (ix2 s l) i a + (rows A wf).batchCoord (ix2 s l) a + (rows A wf).offCoord (ix2 s l) a = _
  rw [GatherDims.batchCoord_eq_zero _ _ _ List.not_mem_nil, Nat.add_zero]
  have ha : a = (0 : Fin 2) ∨ a = (1 : Fin 2) := by
    match a with
    | ⟨0, _⟩ => exact .inl rfl
    | ⟨1, _⟩ => exact .inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rows A wf).startIndexMap from List.mem_singleton.mpr rfl)]
    have hsi : (rows A wf).siIdx (ix2 s l) ⟨List.idxOf (0 : Fin 2) (rows A wf).startIndexMap, List.idxOf_lt_length_iff.2 (List.mem_singleton.mpr rfl)⟩ = ix2 s 0 := by
      funext b
      refine Fin.ext ?_
      match b with
      | ⟨0, _⟩ => rfl
      | ⟨1, _⟩ => rfl
    rw [hsi]
    exact start_lt _ e h
  · unfold GatherDims.start
    rw [dif_neg (show (1 : Fin 2) ∉ (rows A wf).startIndexMap from (by decide : (1 : Fin 2) ∉ ([0] : List (Fin 2)))), Nat.zero_add]
    rfl

theorem hidR_at (x : FVec Ideal S335872x1024 .bf16) (e : IVec S656 32) (w1 : FVec Ideal S32x1024x2048 .f32) (b1 : FVec Ideal S32x2048 .f32) (s : Fin 656) (i : Fin 512) (l : Fin 2048) :
    hidR x e w1 b1 (ix3 s i l) = (∑ k : Fin 1024, x (ix2 (rowOf s i) k) * Host.gather gather_S32x1024x2048_S656x1_S656x1024x2048_12_0_n_n_0_1_110242048 w1 (wrapE e) (ix3 s k l))
      + Host.gather gather_S32x2048_S656x1_S656x2048_1_0_n_n_0_1_12048 b1 (wrapE e) (ix2 s l) := by
  pointwise [hidR]
  have er : rowOf s i = ⟨s.val * 512 + i.val, by omega⟩ := Fin.ext (by simp only [rowOf]; omega)
  rw [er]

theorem actR_at (h : FVec Ideal S656x512x2048 .f32) (s : Fin 656) (i : Fin 512) (l : Fin 1024) : actR h (ix3 s i l) = gated (h (ix3 s i (loC l))) (h (ix3 s i (hiC l))) := by
  pointwise [actR, gateR, upR, splat]
  rfl

theorem prodR_at (a : FVec Ideal S656x512x1024 .f32) (e : IVec S656 32) (w2 : FVec Ideal S32x1024x1024 .f32) (b2 : FVec Ideal S32x1024 .f32) (s : Fin 656) (i : Fin 512) (j : Fin 1024) :
    prodR a e w2 b2 (ix3 s i j) = (∑ l : Fin 1024, a (ix3 s i l) * Host.gather gather_S32x1024x1024_S656x1_S656x1024x1024_12_0_n_n_0_1_110241024 w2 (wrapE e) (ix3 s l j))
      + Host.gather gather_S32x1024_S656x1_S656x1024_1_0_n_n_0_1_11024 b2 (wrapE e) (ix2 s j) := by
  pointwise [prodR]

theorem outR_at (n : IVec S1 32) (z : FVec Ideal S656x512x1024 .f32) (r : Fin 335872) (j : Fin 1024) :
    outR n z (ix2 r j) = if (BitVec.ofNat 32 (blkOf r).val).slt (n (ix1 0)) then z (ix3 (blkOf r) (inBlk r) j) else 0 := by
  pointwise [outR, splat]
  have key : ∀ (b : Bool) (u v : EReal), Scalar.select (BitVec.ofBool b) u v = if b = true then u else v := by
    intro b u v
    cases b <;> rfl
  exact key _ _ _

/-- The reference's result: a row of an active block through its block's expert, zero elsewhere. -/
theorem value_at (x : FVec Ideal S335872x1024 .bf16) (e : IVec S656 32) (n : IVec S1 32) (w1 : FVec Ideal S32x1024x2048 .f32) (b1 : FVec Ideal S32x2048 .f32)
    (w2 : FVec Ideal S32x1024x1024 .f32) (b2 : FVec Ideal S32x1024 .f32) (E : Fin 656 → Fin 32) (hE : ∀ s, (e (ix1 s)).toNat = (E s).val) (r : Fin 335872) (j : Fin 1024) :
    outR n (prodR (actR (hidR x e w1 b1)) e w2 b2) (ix2 r j) = result x E (n (ix1 0)) w1 b1 w2 b2 (blkOf r) (inBlk r) j := by
  have hw : ∀ s, (wrapE e (ix2 s 0)).toNat = (E s).val := fun s => by
    rw [wrapE_at e s (by rw [hE]; exact (E s).isLt), hE]
  have h1 : ∀ s k l, Host.gather gather_S32x1024x2048_S656x1_S656x1024x2048_12_0_n_n_0_1_110242048 w1 (wrapE e) (ix3 s k l) = w1 (ix3 (E s) k l) := fun s k l =>
    slabs_at (A := 1024) (B := 2048) _ w1 (wrapE e) s k l (E s) (hw s)
  have h2 : ∀ s l, Host.gather gather_S32x2048_S656x1_S656x2048_1_0_n_n_0_1_12048 b1 (wrapE e) (ix2 s l) = b1 (ix2 (E s) l) := fun s l =>
    rows_at (A := 2048) _ b1 (wrapE e) s l (E s) (hw s)
  have h3 : ∀ s l j, Host.gather gather_S32x1024x1024_S656x1_S656x1024x1024_12_0_n_n_0_1_110241024 w2 (wrapE e) (ix3 s l j) = w2 (ix3 (E s) l j) := fun s l j =>
    slabs_at (A := 1024) (B := 1024) _ w2 (wrapE e) s l j (E s) (hw s)
  have h4 : ∀ s j, Host.gather gather_S32x1024_S656x1_S656x1024_1_0_n_n_0_1_11024 b2 (wrapE e) (ix2 s j) = b2 (ix2 (E s) j) := fun s j =>
    rows_at (A := 1024) _ b2 (wrapE e) s j (E s) (hw s)
  rw [outR_at]
  unfold result
  split
  · rw [prodR_at, h4]
    unfold ffn Cert.ExpertsIdeal.Math.hidden
    simp only [h3, actR_at, hidR_at, h1, h2]
  · rfl

end Cert.ExpertsReferenceIdeal.Math

end
-- ==== Proof.ExpertsNamed.lean ====
/- What the precondition `experts_named` says, word by word. -/
module

public import proofs.«01_k».proof.Pre_experts_named
public import proofs.«01_k».proof.Proof.Gen.Pre_experts_named

@[expose] public section

namespace Cert.ExpertsNamed

open Idealize.ShloMosaic Cert.Pre_experts_named

theorem ofBool_and (p q : Bool) : BitVec.ofBool p &&& BitVec.ofBool q = 1#1 ↔ p = true ∧ q = true := by
  cases p <;> cases q <;> decide

/-- A word that is at least zero and under 32 as a signed number is under 32 as a natural number. -/
theorem toNat_lt (b : BitVec 32) (h0 : (0#32).sle b = true) (h1 : b.slt 32#32 = true) : b.toNat < 32 := by
  rw [BitVec.sle, decide_eq_true_eq, BitVec.toInt_zero] at h0
  rw [BitVec.slt, decide_eq_true_eq] at h1
  have e : (32#32 : BitVec 32).toInt = 32 := by decide
  rw [e] at h1
  have hb := b.isLt
  rw [BitVec.toInt] at h0 h1
  split at h0 <;> split at h1 <;> omega

/-- Under the precondition every block names one of the 32 experts. -/
theorem named {F : FTy → Type} [FloatOps F] (a0 : FVec F S335872x1024 .bf16) (a1 : IVec S656 32) (a2 : IVec S1 32)
    (a3 : FVec F S32x1024x2048 .f32) (a4 : FVec F S32x2048 .f32) (a5 : FVec F S32x1024x1024 .f32) (a6 : FVec F S32x1024 .f32)
    (h : fn a0 a1 a2 a3 a4 a5 a6 = fun _ => 1#1) (s : S656.Idx) : (a1 s).toNat < 32 := by
  have e : BitVec.ofBool ((0#32).sle (a1 s)) &&& BitVec.ofBool ((a1 s).slt 32#32) = 1#1 := congrFun h s
  exact toNat_lt _ ((ofBool_and _ _).mp e).1 ((ofBool_and _ _).mp e).2

end Cert.ExpertsNamed

end
-- ==== Proof.ExpertsAlgebraic.lean ====
/- The experts' value claim: where every block names one of the experts, the kernel's rows and the reference's are the same. -/
module

public import proofs.«01_k».proof.Defs
public import proofs.«01_k».proof.Proof.ExpertsRef
public import proofs.«01_k».proof.Proof.ExpertsNamed
public import proofs.«01_k».proof.Proof.ExpertsOk

@[expose] public section

set_option maxRecDepth 16384

noncomputable section

namespace Cert.Proof

open Idealize.ShloMosaic Idealize.ShloMosaic.TcCoe Idealize.ShloMosaic.Tactic Idealize.SL.Sem
open Cert.ExpertsIdeal.Math (resultK tabE)

theorem named_experts {m} (h : Cert.Pre_Experts m) : Cert.Experts.Gen.Named m :=
  Cert.ExpertsNamed.named _ _ _ _ _ _ _ (h 0)

theorem named_ideal {m} (h : Cert.Pre_ExpertsIdeal m) : Cert.ExpertsIdeal.Gen.Named m :=
  Cert.ExpertsNamed.named _ _ _ _ _ _ _ (h 0)

theorem frame_experts : Cert.quiescent_Experts := fun m ρ h =>
  Cert.Experts.Gen.frame m ρ (Cert.Experts.Gen.ok_of_named m (named_experts h))

theorem frame_experts_ideal : Cert.quiescent_ExpertsIdeal := fun m ρ h =>
  Cert.ExpertsIdeal.Gen.frame m ρ (Cert.ExpertsIdeal.Gen.ok_of_named m (named_ideal h))

theorem algebraic_experts : Cert.algebraic_ExpertsIdeal_ExpertsReferenceIdeal := by
  intro m ρ m' ρ' hpre hag
  have hN := named_ideal hpre
  have hO := Cert.ExpertsIdeal.Gen.ok_of_named m hN
  refine ⟨fun c => resultK m hN c, ?_, ?_⟩
  · exact (θ_run _ _ _).mono (fun _ h c => ⟨(h.1 c).1.trans (Cert.ExpertsIdeal.Math.final m hO hN c), (h.1 c).2⟩)
      (Cert.ExpertsIdeal.Gen.run_blocks m ρ hO)
  · refine (θ_run _ _ _).mono (fun _ h c => ⟨(h c).1.trans ?_, (h c).2⟩) (Cert.ExpertsReferenceIdeal.Value.run m' ρ')
    obtain rfl : c = 0 := Subsingleton.elim _ _
    obtain ⟨e0, e1, e2, e3, e4, e5, e6⟩ := hag 0
    refine (Cert.ExpertsReferenceIdeal.Math.res_eq m' 0).trans ?_
    rw [e0, e1, e2, e3, e4, e5, e6]
    funext y
    obtain ⟨r, j, rfl⟩ : ∃ r j, y = ix2 r j := ⟨y 0, y 1, eq_ix2 y⟩
    exact Cert.ExpertsReferenceIdeal.Math.value_at _ _ _ _ _ _ _ (tabE hN) (fun _ => rfl) r j

end Cert.Proof

end
-- ==== Proof.Stages.lean ====
/- The kernel's values by name: one function per step of the chunked recurrence, for one direction (`rev`), one head of a pair (`hh`)
and one loaded block of 256 times. All of them are stated for any reading of the floats. -/
module

public import proofs.«01_k».proof.Proof.Gen.KernelIdeal.Skeleton

@[expose] public section

noncomputable section

namespace Cert.KernelIdeal.Stages

open Cert.KernelIdeal Cert.KernelIdeal.Gen Idealize.ShloMosaic Idealize.ShloMosaic.TcCoe

variable {F : FTy → Type} [FloatOps F]

/-! ## Masks -/

def row : IVec S256x256 32 := iota .tc S256x256 32 [0] iota_S256x256_d0_w32
def col : IVec S256x256 32 := iota .tc S256x256 32 [1] iota_S256x256_d1_w32
/-- Two times of one chunk. -/
def m64 : IVec S256x256 1 := cmpi .eq (shrsi row (broadcast S256x256 6#32)) (shrsi col (broadcast S256x256 6#32))
/-- The column's time comes before the row's, in one chunk. -/
def strict (rev : Bool) : IVec S256x256 1 := andi m64 (cmpi (bif rev then .sgt else .slt) col row)
/-- The column's time comes before the row's or is the same, in one chunk. -/
def incl (rev : Bool) : IVec S256x256 1 := andi m64 (cmpi (bif rev then .sge else .sle) col row)
def ones (s : Shape) : FVec F s .f32 := broadcast s (Scalar.ofBits .f32 0x3F800000#32 : F .f32)
def zeros (s : Shape) : FVec F s .f32 := broadcast s (Scalar.ofBits .f32 0x00000000#32 : F .f32)
/-- Ones on the four diagonal blocks of 64. -/
def blk : FVec F S256x256 .bf16 := truncf .bf16 (select m64 (ones S256x256) (zeros S256x256)) bitsLt_bf16_f32

/-- The rows and, within its block of 64, the columns of four matrices side by side. -/
def rc : IVec S64x256 32 := iota .tc S64x256 32 [0] iota_S64x256_d0_w32
def lc : IVec S64x256 32 := iota .tc S64x256 32 [1] iota_S64x256_d1_w32
def li : IVec S64x256 32 := andi lc (broadcast S64x256 63#32)
/-- Row and column in one block of `2^n`. -/
def same (n : BitVec 32) : IVec S64x256 1 := cmpi .eq (shrsi rc (broadcast S64x256 n)) (shrsi li (broadcast S64x256 n))
def chunkOf : IVec S64x256 32 := shrsi lc (broadcast S64x256 6#32)
def eyeC : FVec F S64x256 .f32 := select (cmpi .eq rc li) (ones S64x256) (zeros S64x256)
def eyeH : IVec S64x64 1 := cmpi .eq (iota .tc S64x64 32 [0] iota_S64x64_d0_w32) (iota .tc S64x64 32 [1] iota_S64x64_d1_w32)
def neg (x : IVec S64x256 1) : IVec S64x256 1 := xori x (constantI S64x256 1 1#1)

/-! ## Products -/

/-- Four 64 × 64 matrices side by side, set on the diagonal of a 256 × 256 one. -/
def bdiag (z : FVec F S64x256 .bf16) : FVec F S256x256 .bf16 :=
  mulf (concatenate S256x256 0 [⟨S64x256, z⟩, ⟨S64x256, z⟩, ⟨S64x256, z⟩, ⟨S64x256, z⟩] concatenates_S64x256_S64x256_S64x256_S64x256_S256x256_d0) blk
/-- Four products of 64 × 64 matrices. -/
def mmC (a : FVec F S64x256 .bf16) (b : FVec F S256x256 .bf16) : FVec F S64x256 .f32 :=
  matmul dot_S64x256_S256x256_S64x256_1_0_0_1_n_n none a b (constant S64x256 .f32 0x00000000#32)
def mmB (a : FVec F S256x256 .bf16) (b : FVec F S256x64 .bf16) : FVec F S256x64 .f32 :=
  matmul dot_S256x256_S256x64_S256x64_1_0_0_1_n_n none a b (constant S256x64 .f32 0x00000000#32)
def mmT (a : FVec F S256x128 .bf16) (tri : FVec F S256x256 .bf16) : FVec F S256x128 .f32 :=
  matmul dot_S256x256_S256x128_S256x128_1_0_0_1_n_n none tri a (constant S256x128 .f32 0x00000000#32)
/-- Rows against rows. -/
def nt (a b : FVec F S256x64 .bf16) : FVec F S256x256 .f32 :=
  matmul dot_S256x64_S256x64_S256x256_1_1_0_0_n_n none a b (constant S256x256 .f32 0x00000000#32)
/-- Columns against columns. -/
def tn (a b : FVec F S64x64 .bf16) : FVec F S64x64 .f32 :=
  matmul dot_S64x64_S64x64_S64x64_0_0_1_1_n_n none a b (constant S64x64 .f32 0x00000000#32)
def mm (a b : FVec F S64x64 .bf16) : FVec F S64x64 .f32 :=
  matmul dot_S64x64_S64x64_S64x64_1_0_0_1_n_n none a b (constant S64x64 .f32 0x00000000#32)
def lo {s : Shape} (x : FVec F s .f32) : FVec F s .bf16 := truncf .bf16 x bitsLt_bf16_f32
def up {s : Shape} (x : FVec F s .bf16) : FVec F s .f32 := extf .f32 x bitsLt_bf16_f32

/-! ## The scaled rows of a block -/

/-- A block of 256 times for one pair of heads, as it is loaded. -/
structure Blk (F : FTy → Type) where
  lw : Vec F S1x1x256x128 .f32
  r : Vec F S1x1x256x128 .bf16
  v : Vec F S1x1x256x128 .bf16
  n : Vec F S1x1x256x128 .bf16
  k : Vec F S1x1x256x128 .bf16
  b : Vec F S1x1x256x128 .bf16

def flat {φ : FTy} (x : FVec F S1x1x256x128 φ) : FVec F S256x128 φ := shapeCast S256x128 x shapeCasts_S1x1x256x128_S256x128

variable (rev : Bool) (x : Blk F)

def tri : FVec F S256x256 .bf16 := lo (select (incl rev) (ones S256x256) (zeros S256x256))
/-- The running sum of the log decays within a chunk, its argument taken in two parts. -/
def cum : FVec F S256x128 .f32 :=
  addf (mmT (lo (flat x.lw)) (tri rev)) (mmT (lo (subf (flat x.lw) (up (lo (flat x.lw))))) (tri rev))
theorem lastRow_slices : ∀ (rev : Bool) (ck : Fin 4),
    S256x128.Slices ![64 * ck.val + (bif rev then 0 else 63), 0] S1x128 := by decide
/-- The running sum at the last time of a chunk, in each of its rows. -/
def lastRow (c : FVec F S256x128 .f32) (ck : Fin 4) : FVec F S64x128 .f32 :=
  broadcastTo S64x128 (shapeCast S1x128 (extractStridedSlice S1x128 ![64 * ck.val + (bif rev then 0 else 63), 0] c
    (lastRow_slices rev ck)) shapeCasts_S1x128_S1x128) broadcasts_S1x128_S64x128
def tot (c : FVec F S256x128 .f32) : FVec F S256x128 .f32 :=
  concatenate S256x128 0 [⟨S64x128, lastRow rev c 0⟩, ⟨S64x128, lastRow rev c 1⟩, ⟨S64x128, lastRow rev c 2⟩, ⟨S64x128, lastRow rev c 3⟩]
    concatenates_S64x128_S64x128_S64x128_S64x128_S256x128_d0
def winv : FVec F S256x128 .f32 := exp (subf (zeros S256x128) (cum rev x))
def wd : FVec F S256x128 .f32 := exp (subf (tot rev (cum rev x)) (cum rev x))
def wtot : FVec F S256x128 .f32 := exp (tot rev (cum rev x))
def rt : FVec F S256x128 .bf16 := lo (mulf (up (flat x.r)) (exp (cum rev x)))
def at' : FVec F S256x128 .bf16 :=
  lo (mulf (subf (zeros S256x128) (up (flat x.n))) (exp (subf (cum rev x) (flat x.lw))))
def bt : FVec F S256x128 .bf16 := lo (mulf (up (flat x.b)) (winv rev x))
def kt : FVec F S256x128 .bf16 := lo (mulf (up (flat x.k)) (winv rev x))
def bh : FVec F S256x128 .bf16 := lo (mulf (up (flat x.b)) (wd rev x))
def kh : FVec F S256x128 .bf16 := lo (mulf (up (flat x.k)) (wd rev x))

/-! ## One head of the pair -/

theorem hd_slices : ∀ hh : Fin 2, S256x128.Slices ![0, 64 * hh.val] S256x64 := by decide
def hd {φ : FTy} (hh : Fin 2) (z : FVec F S256x128 φ) : FVec F S256x64 φ := extractStridedSlice S256x64 ![0, 64 * hh.val] z (hd_slices hh)
theorem chunk_slices : ∀ ck : Fin 4, S256x64.Slices ![64 * ck.val, 0] S64x64 := by decide
def chunk {φ : FTy} (ck : Fin 4) (z : FVec F S256x64 φ) : FVec F S64x64 φ := extractStridedSlice S64x64 ![64 * ck.val, 0] z (chunk_slices ck)
theorem chunkHd_slices : ∀ (ck : Fin 4) (hh : Fin 2), S256x128.Slices ![64 * ck.val, 64 * hh.val] S64x64 := by decide
def chunkHd {φ : FTy} (ck : Fin 4) (hh : Fin 2) (z : FVec F S256x128 φ) : FVec F S64x64 φ :=
  extractStridedSlice S64x64 ![64 * ck.val, 64 * hh.val] z (chunkHd_slices ck hh)
theorem band_slices : ∀ ck : Fin 4, S256x256.Slices ![64 * ck.val, 0] S64x256 := by decide
theorem firstRow_slices : ∀ (ck : Fin 4) (hh : Fin 2), S256x128.Slices ![64 * ck.val, 64 * hh.val] S1x64 := by decide

variable (hh : Fin 2)

def aH : FVec F S256x64 .bf16 := hd hh (at' rev x)
def rH : FVec F S256x64 .bf16 := hd hh (rt rev x)
def bH : FVec F S256x64 .bf16 := hd hh (bt rev x)
def kH : FVec F S256x64 .bf16 := hd hh (kt rev x)
def vH : FVec F S256x64 .bf16 := hd hh (flat x.v)

def keep (k : IVec S256x256 1) (z : FVec F S256x256 .f32) : FVec F S256x256 .f32 := select k z (zeros S256x256)
def keepC (k : IVec S64x256 1) (z : FVec F S64x256 .f32) : FVec F S64x256 .f32 := select k z (zeros S64x256)

def lab : FVec F S256x256 .f32 := keep (strict rev) (nt (aH rev x hh) (bH rev x hh))
def lak : FVec F S256x256 .bf16 := lo (keep (strict rev) (nt (aH rev x hh) (kH rev x hh)))
def mrb : FVec F S256x256 .bf16 := lo (keep (incl rev) (nt (rH rev x hh) (bH rev x hh)))
def mrk : FVec F S256x256 .bf16 := lo (keep (incl rev) (nt (rH rev x hh) (kH rev x hh)))

/-- The diagonal block of one chunk, in its own columns. -/
def band (l : FVec F S256x256 .f32) (ck : Fin 4) : FVec F S64x256 .f32 :=
  keepC (cmpi .eq chunkOf (broadcast S64x256 (BitVec.ofNat 32 ck.val))) (extractStridedSlice S64x256 ![64 * ck.val, 0] l (band_slices ck))
/-- The four diagonal blocks side by side. -/
def compact (l : FVec F S256x256 .f32) : FVec F S64x256 .f32 :=
  addf (addf (addf (addf (zeros S64x256) (band l 0)) (band l 1)) (band l 2)) (band l 3)

/-! ### The triangular inverse, by blocks of 8, 16, 32 and 64 -/

def sq (a : FVec F S64x256 .bf16) : FVec F S64x256 .bf16 := lo (mmC a (bdiag a))
def horner (z : FVec F S64x256 .f32) (q : FVec F S64x256 .bf16) : FVec F S64x256 .f32 := addf z (mmC (lo z) (bdiag q))
def inv8 (l : FVec F S64x256 .f32) : FVec F S64x256 .f32 :=
  horner (horner (addf eyeC (keepC (same 3#32) l)) (sq (lo (keepC (same 3#32) l)))) (sq (sq (lo (keepC (same 3#32) l))))
/-- From the inverse by smaller blocks to that by blocks twice as large: `lvl` is where the new couplings lie. -/
def twice (lvl : IVec S64x256 1) (l : FVec F S64x256 .f32) (z : FVec F S64x256 .f32) : FVec F S64x256 .f32 :=
  horner z (lo (mmC (lo (keepC lvl l)) (bdiag (lo z))))
def inv (l : FVec F S64x256 .f32) : FVec F S64x256 .f32 :=
  twice (neg (same 5#32)) l (twice (andi (same 5#32) (neg (same 4#32))) l (twice (andi (same 4#32) (neg (same 3#32))) l (inv8 l)))

def tb : FVec F S256x256 .bf16 := bdiag (lo (inv (compact (lab rev x hh))))
def wu : FVec F S256x64 .bf16 := lo (mmB (tb rev x hh) (aH rev x hh))
def uv : FVec F S256x64 .bf16 := lo (mmB (tb rev x hh) (lo (mmB (lak rev x hh) (vH x hh))))
def q : FVec F S256x64 .bf16 := lo (addf (up (rH rev x hh)) (mmB (mrb rev x hh) (wu rev x hh)))
def yl : FVec F S256x64 .f32 := addf (mmB (mrb rev x hh) (uv rev x hh)) (mmB (mrk rev x hh) (vH x hh))

/-! ### From one chunk to the next -/

def decay (ck : Fin 4) : FVec F S64x64 .f32 :=
  select eyeH (broadcastTo S64x64 (shapeCast S1x64 (extractStridedSlice S1x64 ![64 * ck.val, 64 * hh.val] (wtot rev x) (firstRow_slices ck hh))
    shapeCasts_S1x64_S1x64) broadcasts_S1x64_S64x64) (zeros S64x64)
def g (ck : Fin 4) : FVec F S64x64 .bf16 :=
  lo (addf (tn (chunkHd ck hh (bh rev x)) (chunk ck (wu rev x hh))) (decay rev x hh ck))
def h (ck : Fin 4) : FVec F S64x64 .f32 :=
  addf (tn (chunkHd ck hh (bh rev x)) (chunk ck (uv rev x hh))) (tn (chunkHd ck hh (kh rev x)) (chunk ck (vH x hh)))
def y (ck : Fin 4) (s : FVec F S64x64 .f32) : FVec F S64x64 .f32 := addf (mm (chunk ck (q rev x hh)) (lo s)) (chunk ck (yl rev x hh))
def next (ck : Fin 4) (s : FVec F S64x64 .f32) : FVec F S64x64 .f32 := addf (mm (g rev x hh ck) (lo s)) (h rev x hh ck)

/-- The chunk taken at step `n`: backwards in time for the reversed direction. -/
def order (n : Fin 4) : Fin 4 := bif rev then n.rev else n
/-- The state before step `n` of the block's four chunks. -/
def st (s : FVec F S64x64 .f32) : ℕ → FVec F S64x64 .f32
  | 0 => s
  | n + 1 => next rev x hh (order rev (Fin.ofNat 4 n)) (st s n)
def out (s : FVec F S64x64 .f32) (n : Fin 4) : FVec F S1x1x64x64 .f32 :=
  shapeCast S1x1x64x64 (y rev x hh (order rev n) (st rev x hh s n.val)) shapeCasts_S64x64_S1x1x64x64
def end' (s : FVec F S1x1x64x64 .f32) : FVec F S1x1x64x64 .f32 :=
  shapeCast S1x1x64x64 (st rev x hh (shapeCast S64x64 s shapeCasts_S1x1x64x64_S64x64) 4) shapeCasts_S64x64_S1x1x64x64

end Cert.KernelIdeal.Stages

end
-- ==== Proof.WkvMath.lean ====
/- The mathematics of the chunked recurrence, over the reals: the inverse of a unit triangular matrix by doubling blocks, and
   one chunk of 64 steps of the recurrence in closed form. Times are indices `t : Fin 64` visited in the order of a rank `ρ`,
   so that both directions are instances. -/
module

public import Idealize.ShloMosaic.Lib.Pointwise
public import Mathlib.Data.Matrix.Mul
public import Mathlib.Tactic.NoncommRing
public import Mathlib.Tactic.LinearCombination
public import Mathlib.Analysis.SpecialFunctions.Exp

@[expose] public section

noncomputable section

namespace Wkv

open Finset

/-! ## The inverse -/

section Inverse
variable {ι : Type*} [Fintype ι] [DecidableEq ι] (ρ : ι → ℕ)

/-- Entries only between times at distance at least `k` that lie in one block of `d`. -/
def Supp (d k : ℕ) (A : Matrix ι ι ℝ) : Prop := ∀ i j, A i j ≠ 0 → ρ j + k ≤ ρ i ∧ ρ i / d = ρ j / d

theorem Supp.mul {d k l : ℕ} {A B : Matrix ι ι ℝ} (hA : Supp ρ d k A) (hB : Supp ρ d l B) : Supp ρ d (k + l) (A * B) := by
  intro i j h
  rw [Matrix.mul_apply] at h
  obtain ⟨m, -, hm⟩ := Finset.exists_ne_zero_of_sum_ne_zero h
  have h1 := hA i m (left_ne_zero_of_mul hm)
  have h2 := hB m j (right_ne_zero_of_mul hm)
  exact ⟨by omega, h1.2.trans h2.2⟩

theorem Supp.eq_zero {d : ℕ} (hd : 0 < d) {A : Matrix ι ι ℝ} (hA : Supp ρ d d A) : A = 0 := by
  ext i j
  by_contra h
  have h1 := hA i j h
  have h2 : (ρ j + d) / d ≤ ρ i / d := Nat.div_le_div_right h1.1
  rw [Nat.add_div_right _ hd] at h2
  omega

/-- Entries only between times of one block of `d`. -/
def InBlk (d : ℕ) (A : Matrix ι ι ℝ) : Prop := ∀ i j, A i j ≠ 0 → ρ i / d = ρ j / d

theorem InBlk.mul {d : ℕ} {A B : Matrix ι ι ℝ} (hA : InBlk ρ d A) (hB : InBlk ρ d B) : InBlk ρ d (A * B) := by
  intro i j h
  rw [Matrix.mul_apply] at h
  obtain ⟨m, -, hm⟩ := Finset.exists_ne_zero_of_sum_ne_zero h
  exact (hA i m (left_ne_zero_of_mul hm)).trans (hB m j (right_ne_zero_of_mul hm))

theorem InBlk.add {d : ℕ} {A B : Matrix ι ι ℝ} (hA : InBlk ρ d A) (hB : InBlk ρ d B) : InBlk ρ d (A + B) := by
  intro i j h
  by_cases h1 : A i j = 0
  · refine hB i j fun h2 => h ?_
    rw [Matrix.add_apply, h1, h2, add_zero]
  · exact hA i j h1

theorem InBlk.one (d : ℕ) : InBlk ρ d (1 : Matrix ι ι ℝ) := by
  intro i j h
  by_cases hij : i = j
  · rw [hij]
  · exact absurd (Matrix.one_apply_ne hij) h

theorem InBlk.twice {d : ℕ} {A : Matrix ι ι ℝ} (hA : InBlk ρ d A) : InBlk ρ (d * 2) A := by
  intro i j h
  rw [← Nat.div_div_eq_div_mul, ← Nat.div_div_eq_div_mul, hA i j h]

theorem Supp.inBlk {d k : ℕ} {A : Matrix ι ι ℝ} (hA : Supp ρ d k A) : InBlk ρ d A := fun i j h => (hA i j h).2

/-- Eight-blocks: the three factors of the geometric series. -/
theorem inv_eight {L P X Y : Matrix ι ι ℝ} (hL : Supp ρ 8 1 L) (hP : P = L * L) (hX : X = (1 + L) + (1 + L) * P)
    (hY : Y = X + X * (P * P)) : (1 - L) * Y = 1 ∧ InBlk ρ 8 Y := by
  have h2 : Supp ρ 8 2 P := hP ▸ hL.mul ρ hL
  have h4 : Supp ρ 8 4 (P * P) := h2.mul ρ h2
  have h8 : (P * P) * (P * P) = 0 := (h4.mul ρ h4).eq_zero ρ (by norm_num)
  constructor
  · have : (1 - L) * Y = 1 - (P * P) * (P * P) := by subst hY hX hP; noncomm_ring
    rw [this, h8, sub_zero]
  · have hXb : InBlk ρ 8 X := by
      rw [hX]
      have := (InBlk.one ρ 8).add ρ (hL.inBlk ρ)
      exact this.add ρ (this.mul ρ (h2.inBlk ρ))
    rw [hY]
    exact hXb.add ρ (hXb.mul ρ (h4.inBlk ρ))

/-- Entries from the upper half of a block of `2 d` to its lower half. -/
def Cross (d : ℕ) (D : Matrix ι ι ℝ) : Prop :=
  ∀ i j, D i j ≠ 0 → ρ j < ρ i ∧ ρ i / (d * 2) = ρ j / (d * 2) ∧ ρ i / d ≠ ρ j / d

/-- Doubling the blocks. -/
theorem inv_twice {d : ℕ} {A D X : Matrix ι ι ℝ} (hD : Cross ρ d D) (hX : (1 - A) * X = 1) (hb : InBlk ρ d X) :
    (1 - (A + D)) * (X + X * (D * X)) = 1 ∧ InBlk ρ (d * 2) (X + X * (D * X)) := by
  have hDb : InBlk ρ (d * 2) D := fun i j h => (hD i j h).2.1
  have hXb := hb.twice ρ
  have h0 : D * X * D = 0 := by
    ext i j
    by_contra h
    rw [Matrix.mul_apply] at h
    obtain ⟨m, -, hm⟩ := Finset.exists_ne_zero_of_sum_ne_zero h
    have h2 := hD m j (right_ne_zero_of_mul hm)
    have h1 := left_ne_zero_of_mul hm
    rw [Matrix.mul_apply] at h1
    obtain ⟨l, -, hl⟩ := Finset.exists_ne_zero_of_sum_ne_zero h1
    have h3 := hD i l (left_ne_zero_of_mul hl)
    have h4 := hb l m (right_ne_zero_of_mul hl)
    rw [← Nat.div_div_eq_div_mul, ← Nat.div_div_eq_div_mul] at h2 h3
    have h5 : ρ l / d ≤ ρ i / d := Nat.div_le_div_right h3.1.le
    have h6 : ρ j / d ≤ ρ m / d := Nat.div_le_div_right h2.1.le
    omega
  constructor
  · have : (1 - (A + D)) * (X + X * (D * X)) = (1 - A) * X + ((1 - A) * X) * (D * X) - D * X - (D * X * D) * X := by noncomm_ring
    rw [this, hX, h0]
    noncomm_ring
  · exact hXb.add ρ (hXb.mul ρ (hDb.mul ρ hXb))

end Inverse

/-! ## One chunk -/

section Chunk
variable {κ ν : Type*} [Fintype κ] [Fintype ν]

/-- One step of the recurrence: the state's rows are the key lanes, its columns the value lanes. -/
def step (w k a b : κ → ℝ) (v : ν → ℝ) (P : κ → ν → ℝ) : κ → ν → ℝ :=
  fun i j => w i * P i j + b i * (∑ l, a l * P l j) + k i * v j

variable {ι : Type*} [Fintype ι] [DecidableEq ι] (ρ : ι → ℕ) (pos : ℕ → ι)

/-- The state after `n` steps. -/
def states (lw k a b : ι → κ → ℝ) (v : ι → ν → ℝ) (s0 : κ → ν → ℝ) : ℕ → κ → ν → ℝ
  | 0 => s0
  | n + 1 => step (fun i => Real.exp (lw (pos n) i)) (k (pos n)) (a (pos n)) (b (pos n)) (v (pos n)) (states lw k a b v s0 n)

/-- The running sum of the log decays, a time's own included. -/
def cum (lw : ι → κ → ℝ) (t : ι) (i : κ) : ℝ := ∑ s, if ρ s ≤ ρ t then lw s i else 0

/-- The scaled rows before the masks. -/
def sc (e : ι → κ → ℝ) (a : ι → κ → ℝ) (t : ι) (i : κ) : ℝ := a t i * Real.exp (e t i)

structure Solved (lw r k a b : ι → κ → ℝ) (v : ι → ν → ℝ) (wu : ι → κ → ℝ) (uv : ι → ν → ℝ) : Prop where
  wu_eq : ∀ t i, wu t i = a t i * Real.exp (cum ρ lw t i - lw t i)
    + ∑ s, (if ρ s < ρ t then ∑ l, (a t l * Real.exp (cum ρ lw t l - lw t l)) * (b s l * Real.exp (-cum ρ lw s l)) else 0) * wu s i
  uv_eq : ∀ t j, uv t j = (∑ s, (if ρ s < ρ t then ∑ l, (a t l * Real.exp (cum ρ lw t l - lw t l)) * (k s l * Real.exp (-cum ρ lw s l)) else 0) * v s j)
    + ∑ s, (if ρ s < ρ t then ∑ l, (a t l * Real.exp (cum ρ lw t l - lw t l)) * (b s l * Real.exp (-cum ρ lw s l)) else 0) * uv s j

variable {ρ pos}
variable {lw r k a b : ι → κ → ℝ} {v : ι → ν → ℝ} {wu : ι → κ → ℝ} {uv : ι → ν → ℝ} {N : ℕ}

/-- The running sum before position `n`. -/
def before (ρ : ι → ℕ) (lw : ι → κ → ℝ) (n : ℕ) (i : κ) : ℝ := ∑ s, if ρ s < n then lw s i else 0

theorem sum_lt_succ {M : Type*} [AddCommMonoid M] (hpos : ∀ n < N, ρ (pos n) = n) (hinj : ∀ s, ρ s < N ∧ pos (ρ s) = s) {n : ℕ} (hn : n < N) (f : ι → M) :
    (∑ s, if ρ s < n + 1 then f s else 0) = (∑ s, if ρ s < n then f s else 0) + f (pos n) := by
  have h : ∀ s, (if ρ s < n + 1 then f s else 0) = (if ρ s < n then f s else 0) + (if s = pos n then f s else 0) := by
    intro s
    by_cases hs : s = pos n
    · subst hs
      simp [hpos n hn]
    · have h1 : ρ s ≠ n := fun h => hs (by rw [← h, (hinj s).2])
      by_cases h2 : ρ s < n
      · simp [h2, hs, Nat.lt_succ_of_lt h2]
      · simp [h2, hs, show ¬ ρ s < n + 1 by omega]
  simp only [h, sum_add_distrib, sum_ite_eq', mem_univ, if_true]

theorem cum_pos (hpos : ∀ n < N, ρ (pos n) = n) {n : ℕ} (hn : n < N) (i : κ) : cum ρ lw (pos n) i = before ρ lw (n + 1) i := by
  unfold cum before
  rw [hpos n hn]
  simp only [Nat.lt_succ_iff]

theorem before_succ (hpos : ∀ n < N, ρ (pos n) = n) (hinj : ∀ s, ρ s < N ∧ pos (ρ s) = s) {n : ℕ} (hn : n < N) (i : κ) :
    before ρ lw (n + 1) i = before ρ lw n i + lw (pos n) i := sum_lt_succ hpos hinj hn fun s => lw s i

/-- The corrected values at a time. -/
def uu (wu : ι → κ → ℝ) (uv : ι → ν → ℝ) (s0 : κ → ν → ℝ) (t : ι) (j : ν) : ℝ := (∑ i, wu t i * s0 i j) + uv t j

/-- The state before position `n`, in closed form. -/
def closed (ρ : ι → ℕ) (lw k b : ι → κ → ℝ) (v : ι → ν → ℝ) (wu : ι → κ → ℝ) (uv : ι → ν → ℝ) (s0 : κ → ν → ℝ) (n : ℕ) (i : κ) (j : ν) : ℝ :=
  Real.exp (before ρ lw n i) * (s0 i j + ∑ s, if ρ s < n then
    (b s i * Real.exp (-cum ρ lw s i)) * uu wu uv s0 s j + (k s i * Real.exp (-cum ρ lw s i)) * v s j else 0)

theorem uu_eq (h : Solved ρ lw r k a b v wu uv) (s0 : κ → ν → ℝ) (t : ι) (j : ν) :
    uu wu uv s0 t j = ∑ l, (a t l * Real.exp (cum ρ lw t l - lw t l)) * (s0 l j + ∑ s, if ρ s < ρ t then
      (b s l * Real.exp (-cum ρ lw s l)) * uu wu uv s0 s j + (k s l * Real.exp (-cum ρ lw s l)) * v s j else 0) := by
  have e1 : ∀ l, (a t l * Real.exp (cum ρ lw t l - lw t l)) * (s0 l j + ∑ s, if ρ s < ρ t then
      (b s l * Real.exp (-cum ρ lw s l)) * uu wu uv s0 s j + (k s l * Real.exp (-cum ρ lw s l)) * v s j else 0)
      = (a t l * Real.exp (cum ρ lw t l - lw t l)) * s0 l j
        + ((∑ s, (if ρ s < ρ t then (a t l * Real.exp (cum ρ lw t l - lw t l)) * (b s l * Real.exp (-cum ρ lw s l)) else 0) * uu wu uv s0 s j)
          + ∑ s, (if ρ s < ρ t then (a t l * Real.exp (cum ρ lw t l - lw t l)) * (k s l * Real.exp (-cum ρ lw s l)) else 0) * v s j) := by
    intro l
    rw [mul_add, mul_sum, ← sum_add_distrib]
    congr 1
    refine sum_congr rfl fun s _ => ?_
    split <;> ring
  have e2 : ∀ (f : ι → κ → ℝ) (g : ι → ℝ), (∑ s, (if ρ s < ρ t then ∑ l, f s l else 0) * g s) = ∑ l, ∑ s, (if ρ s < ρ t then f s l else 0) * g s := by
    intro f g
    rw [sum_comm]
    refine sum_congr rfl fun s _ => ?_
    split
    · rw [sum_mul]
    · simp
  simp only [e1, sum_add_distrib]
  rw [← e2, ← e2]
  unfold uu
  rw [h.uv_eq t j]
  have e3 : (∑ i, wu t i * s0 i j) = (∑ i, (a t i * Real.exp (cum ρ lw t i - lw t i)) * s0 i j)
      + ∑ s, (if ρ s < ρ t then ∑ l, (a t l * Real.exp (cum ρ lw t l - lw t l)) * (b s l * Real.exp (-cum ρ lw s l)) else 0) * ∑ i, wu s i * s0 i j := by
    simp only [mul_sum]
    rw [sum_comm, ← sum_add_distrib]
    refine sum_congr rfl fun i _ => ?_
    rw [h.wu_eq t i, add_mul, sum_mul]
    congr 1
    exact sum_congr rfl fun s _ => by ring
  rw [e3]
  simp only [mul_add, sum_add_distrib]
  ring

theorem states_eq (hpos : ∀ n < N, ρ (pos n) = n) (hinj : ∀ s, ρ s < N ∧ pos (ρ s) = s) (h : Solved ρ lw r k a b v wu uv) (s0 : κ → ν → ℝ) :
    ∀ n ≤ N, states pos lw k a b v s0 n = closed ρ lw k b v wu uv s0 n := by
  intro n
  induction n with
  | zero => intro _; funext i j; simp [states, closed, before]
  | succ n ih =>
    intro hn
    have hn' : n < N := hn
    have hP := ih hn'.le
    funext i j
    have hsa : (∑ l, a (pos n) l * closed ρ lw k b v wu uv s0 n l j) = uu wu uv s0 (pos n) j := by
      rw [uu_eq h s0 (pos n) j]
      refine sum_congr rfl fun l _ => ?_
      unfold closed
      rw [cum_pos hpos hn', before_succ hpos hinj hn', hpos n hn', add_sub_cancel_right, mul_assoc]
    show step _ _ _ _ _ (states pos lw k a b v s0 n) i j = _
    rw [hP]
    unfold step
    rw [hsa]
    unfold closed
    rw [sum_lt_succ hpos hinj hn', cum_pos hpos hn', before_succ hpos hinj hn', Real.exp_add]
    have hE : Real.exp (before ρ lw n i) * Real.exp (lw (pos n) i) * Real.exp (-(before ρ lw n i + lw (pos n) i)) = 1 := by
      rw [← Real.exp_add, ← Real.exp_add]; simp
    linear_combination (-(b (pos n) i * uu wu uv s0 (pos n) j) - k (pos n) i * v (pos n) j) * hE

/-- What a step of the chunk gives out, in the kernel's form. -/
theorem out_eq (hpos : ∀ n < N, ρ (pos n) = n) (hinj : ∀ s, ρ s < N ∧ pos (ρ s) = s) (h : Solved ρ lw r k a b v wu uv) (s0 : κ → ν → ℝ)
    (t : ι) (j : ν) :
    (∑ i, r t i * states pos lw k a b v s0 (ρ t + 1) i j)
      = (∑ i, (r t i * Real.exp (cum ρ lw t i)
          + ∑ s, (if ρ s ≤ ρ t then ∑ l, (r t l * Real.exp (cum ρ lw t l)) * (b s l * Real.exp (-cum ρ lw s l)) else 0) * wu s i) * s0 i j)
        + ((∑ s, (if ρ s ≤ ρ t then ∑ l, (r t l * Real.exp (cum ρ lw t l)) * (b s l * Real.exp (-cum ρ lw s l)) else 0) * uv s j)
          + ∑ s, (if ρ s ≤ ρ t then ∑ l, (r t l * Real.exp (cum ρ lw t l)) * (k s l * Real.exp (-cum ρ lw s l)) else 0) * v s j) := by
  have ht := hinj t
  rw [states_eq hpos hinj h s0 (ρ t + 1) ht.1]
  have hc : ∀ i, cum ρ lw t i = before ρ lw (ρ t + 1) i := fun i => by rw [← cum_pos hpos ht.1, ht.2]
  have e1 : ∀ l, r t l * closed ρ lw k b v wu uv s0 (ρ t + 1) l j
      = (r t l * Real.exp (cum ρ lw t l)) * s0 l j
        + ((∑ s, (if ρ s ≤ ρ t then (r t l * Real.exp (cum ρ lw t l)) * (b s l * Real.exp (-cum ρ lw s l)) else 0) * uu wu uv s0 s j)
          + ∑ s, (if ρ s ≤ ρ t then (r t l * Real.exp (cum ρ lw t l)) * (k s l * Real.exp (-cum ρ lw s l)) else 0) * v s j) := by
    intro l
    unfold closed
    rw [hc l, mul_add, mul_add, mul_sum, mul_sum, ← sum_add_distrib]
    congr 1
    · ring
    refine sum_congr rfl fun s _ => ?_
    simp only [Nat.lt_succ_iff]
    split <;> ring
  have e2 : ∀ (f : ι → κ → ℝ) (g : ι → ℝ), (∑ s, (if ρ s ≤ ρ t then ∑ l, f s l else 0) * g s) = ∑ l, ∑ s, (if ρ s ≤ ρ t then f s l else 0) * g s := by
    intro f g
    rw [sum_comm]
    refine sum_congr rfl fun s _ => ?_
    split
    · rw [sum_mul]
    · simp
  simp only [e1, sum_add_distrib]
  rw [← e2, ← e2]
  have e3 : ∀ c : ι → ℝ, (∑ s, c s * uu wu uv s0 s j) = (∑ i, (∑ s, c s * wu s i) * s0 i j) + ∑ s, c s * uv s j := by
    intro c
    unfold uu
    simp only [mul_add, sum_add_distrib, mul_sum, sum_mul]
    congr 1
    rw [sum_comm]
    exact sum_congr rfl fun i _ => sum_congr rfl fun s _ => by ring
  rw [e3]
  simp only [add_mul, sum_add_distrib]
  ring

/-- The state a chunk leaves, in the kernel's form. -/
theorem end_eq [DecidableEq κ] (hpos : ∀ n < N, ρ (pos n) = n) (hinj : ∀ s, ρ s < N ∧ pos (ρ s) = s) (h : Solved ρ lw r k a b v wu uv) (s0 : κ → ν → ℝ)
    (tot : κ → ℝ) (htot : ∀ i, tot i = ∑ s, lw s i) (i : κ) (j : ν) :
    states pos lw k a b v s0 N i j
      = (∑ l, ((∑ s, (b s i * Real.exp (tot i - cum ρ lw s i)) * wu s l) + if i = l then Real.exp (tot l) else 0) * s0 l j)
        + ((∑ s, (b s i * Real.exp (tot i - cum ρ lw s i)) * uv s j) + ∑ s, (k s i * Real.exp (tot i - cum ρ lw s i)) * v s j) := by
  rw [states_eq hpos hinj h s0 N le_rfl]
  unfold closed
  have hb : before ρ lw N i = tot i := by
    unfold before
    rw [htot]
    exact sum_congr rfl fun s _ => if_pos (hinj s).1
  rw [hb]
  have e0 : ∀ s, Real.exp (tot i - cum ρ lw s i) = Real.exp (tot i) * Real.exp (-cum ρ lw s i) := fun s => by
    rw [← Real.exp_add, sub_eq_add_neg]
  have e1 : (∑ s, if ρ s < N then (b s i * Real.exp (-cum ρ lw s i)) * uu wu uv s0 s j + (k s i * Real.exp (-cum ρ lw s i)) * v s j else 0)
      = (∑ s, (b s i * Real.exp (-cum ρ lw s i)) * uu wu uv s0 s j) + ∑ s, (k s i * Real.exp (-cum ρ lw s i)) * v s j := by
    rw [← sum_add_distrib]
    exact sum_congr rfl fun s _ => if_pos (hinj s).1
  rw [e1]
  have e3 : ∀ c : ι → ℝ, (∑ s, c s * uu wu uv s0 s j) = (∑ l, (∑ s, c s * wu s l) * s0 l j) + ∑ s, c s * uv s j := by
    intro c
    unfold uu
    simp only [mul_add, sum_add_distrib, mul_sum, sum_mul]
    congr 1
    rw [sum_comm]
    exact sum_congr rfl fun i _ => sum_congr rfl fun s _ => by ring
  rw [e3]
  simp only [e0, add_mul, sum_add_distrib, ite_mul, zero_mul, sum_ite_eq, mem_univ, if_true]
  have e4 : ∀ (c d : ι → ℝ), (∑ s, (c s * (Real.exp (tot i) * Real.exp (-cum ρ lw s i))) * d s) = Real.exp (tot i) * ∑ s, (c s * Real.exp (-cum ρ lw s i)) * d s := by
    intro c d
    rw [mul_sum]
    exact sum_congr rfl fun s _ => by ring
  simp only [e4]
  have e5 : (∑ l, (Real.exp (tot i) * ∑ s, (b s i * Real.exp (-cum ρ lw s i)) * wu s l) * s0 l j)
      = Real.exp (tot i) * ∑ l, (∑ s, (b s i * Real.exp (-cum ρ lw s i)) * wu s l) * s0 l j := by
    rw [mul_sum]
    exact sum_congr rfl fun l _ => by ring
  rw [e5]
  ring

end Chunk

end Wkv

end
-- ==== Proof.Lift.lean ====
/- Over the extended reals, on finite inputs: every value of `Proof.Stages` holds real numbers, and which ones. -/
module

public import proofs.«01_k».proof.Proof.Stages
public import proofs.«01_k».proof.Proof.WkvMath
public import Idealize.ShloMosaic.Lib.Pointwise
public import Idealize.ShloMosaic.Lib.WordCmp

@[expose] public section

set_option maxRecDepth 16384

noncomputable section

namespace Cert.KernelIdeal.Stages

open Cert.KernelIdeal Cert.KernelIdeal.Gen Idealize.ShloMosaic Idealize.ShloMosaic.TcCoe

/-- The vector holds the real numbers `f`. -/
def Is {m n : ℕ} {φ : FTy} (v : FVec Ideal ⟨2, ![m, n]⟩ φ) (f : Matrix (Fin m) (Fin n) ℝ) : Prop :=
  ∀ i j, v (ix2 i j) = ((f i j : ℝ) : EReal)

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

section
variable {m n : ℕ}

theorem Is.lo {v : FVec Ideal ⟨2, ![m, n]⟩ .f32} {f : Matrix (Fin m) (Fin n) ℝ} (h : Is v f) : Is (lo v) f := by
  intro i j; rw [← h i j]; pointwise [Stages.lo]
theorem Is.up {v : FVec Ideal ⟨2, ![m, n]⟩ .bf16} {f : Matrix (Fin m) (Fin n) ℝ} (h : Is v f) : Is (up v) f := by
  intro i j; rw [← h i j]; pointwise [Stages.up]
theorem Is.add {φ : FTy} {v w : FVec Ideal ⟨2, ![m, n]⟩ φ} {f g : Matrix (Fin m) (Fin n) ℝ} (hv : Is v f) (hw : Is w g) :
    Is (addf v w) (f + g) := by
  intro i j; pointwise; rw [hv i j, hw i j, ← EReal.coe_add]; rfl
theorem Is.sub {φ : FTy} {v w : FVec Ideal ⟨2, ![m, n]⟩ φ} {f g : Matrix (Fin m) (Fin n) ℝ} (hv : Is v f) (hw : Is w g) :
    Is (subf v w) (f - g) := by
  intro i j; pointwise; rw [hv i j, hw i j, ← EReal.coe_sub]; rfl
theorem Is.mul {φ : FTy} {v w : FVec Ideal ⟨2, ![m, n]⟩ φ} {f g : Matrix (Fin m) (Fin n) ℝ} (hv : Is v f) (hw : Is w g) :
    Is (mulf v w) (Matrix.of fun i j => f i j * g i j) := by
  intro i j; pointwise; rw [hv i j, hw i j, ← EReal.coe_mul]; rfl
theorem Is.exp {v : FVec Ideal ⟨2, ![m, n]⟩ .f32} {f : Matrix (Fin m) (Fin n) ℝ} (hv : Is v f) :
    Is (Idealize.ShloMosaic.exp v) (Matrix.of fun i j => Real.exp (f i j)) := by
  intro i j; pointwise; rw [hv i j]; rfl
theorem is_zeros : Is (zeros (F := Ideal) ⟨2, ![m, n]⟩) 0 := by
  intro i j; pointwise [zeros]; rfl
theorem is_ones : Is (ones (F := Ideal) ⟨2, ![m, n]⟩) (Matrix.of fun _ _ => 1) := by
  intro i j; pointwise [ones]; rfl
end

/-! ## Masks -/

theorem shr6 : ∀ a : Fin 256, IntOp.shrsi .vector (BitVec.ofNat 32 a) 6#32 = BitVec.ofNat 32 (a.val / 64) := by decide +kernel
theorem shr_small (d : Fin 3) : ∀ a : Fin 64, IntOp.shrsi .vector (BitVec.ofNat 32 a) (BitVec.ofNat 32 (d.val + 3)) = BitVec.ofNat 32 (a.val / 2 ^ (d.val + 3)) := by
  revert d; decide +kernel
theorem low6 : ∀ a : Fin 256, IntOp.andi (BitVec.ofNat 32 a) 63#32 = BitVec.ofNat 32 (a.val % 64) := by decide +kernel
theorem andi_ofBool (a b : Bool) : IntOp.andi (BitVec.ofBool a) (BitVec.ofBool b) = BitVec.ofBool (a && b) := by revert a b; decide
theorem xori_ofBool (a : Bool) : IntOp.xori (BitVec.ofBool a) 1#1 = BitVec.ofBool (!a) := by revert a; decide
theorem select_ofBool {α : Type} (a : Bool) (x y : α) : Scalar.select (BitVec.ofBool a) x y = if a then x else y := by cases a <;> rfl

/-- The mask holds where `P` does. -/
def IsMask {m n : ℕ} (k : IVec ⟨2, ![m, n]⟩ 1) (P : Fin m → Fin n → Bool) : Prop := ∀ i j, k (ix2 i j) = BitVec.ofBool (P i j)

theorem IsMask.select {m n : ℕ} {k : IVec ⟨2, ![m, n]⟩ 1} {P : Fin m → Fin n → Bool} (hk : IsMask k P) {v w : FVec Ideal ⟨2, ![m, n]⟩ .f32}
    {f g : Matrix (Fin m) (Fin n) ℝ} (hv : Is v f) (hw : Is w g) : Is (select k v w) (Matrix.of fun i j => if P i j then f i j else g i j) := by
  intro i j; pointwise; rw [hk i j, select_ofBool, hv i j, hw i j]; exact coe_ite _ _ _

/-- A time's position in its order: the reversed direction runs backwards. -/
def pos (rev : Bool) (t : Fin 256) : ℕ := bif rev then 255 - t.val else t.val

theorem m64_mask : IsMask m64 fun t s => decide (t.val / 64 = s.val / 64) := by
  intro t s
  pointwise [m64, row, col]
  rw [shr6, shr6, WordCmp.cmpi_eq_ofNat (by omega) (by omega)]
theorem strict_mask (rev : Bool) : IsMask (strict rev) fun t s => decide (t.val / 64 = s.val / 64 ∧ pos rev s < pos rev t) := by
  intro t s
  have h := m64_mask t s
  pointwise [strict]
  rw [h]
  cases rev
  · pointwise [row, col]
    rw [cond_false, WordCmp.cmpi_slt_ofNat (by omega) (by omega), andi_ofBool, ← Bool.decide_and]; rfl
  · pointwise [row, col]
    rw [cond_true, WordCmp.cmpi_sgt_ofNat (by omega) (by omega), andi_ofBool, ← Bool.decide_and]
    congr 2; apply propext; simp only [pos, cond_true]; omega
theorem incl_mask (rev : Bool) : IsMask (incl rev) fun t s => decide (t.val / 64 = s.val / 64 ∧ pos rev s ≤ pos rev t) := by
  intro t s
  have h := m64_mask t s
  pointwise [incl]
  rw [h]
  cases rev
  · pointwise [row, col]
    rw [cond_false, WordCmp.cmpi_sle_ofNat (by omega) (by omega), andi_ofBool, ← Bool.decide_and]; rfl
  · pointwise [row, col]
    rw [cond_true, WordCmp.cmpi_sge_ofNat (by omega) (by omega), andi_ofBool, ← Bool.decide_and]
    congr 2; apply propext; simp only [pos, cond_true]; omega
theorem same_mask (d : Fin 3) : IsMask (same (BitVec.ofNat 32 (d.val + 3))) fun i s => decide (i.val / 2 ^ (d.val + 3) = s.val % 64 / 2 ^ (d.val + 3)) := by
  intro i s
  pointwise [same, rc, li, lc]
  have h1 : i.val / 2 ^ (d.val + 3) ≤ i.val := Nat.div_le_self _ _
  have h2 : s.val % 64 / 2 ^ (d.val + 3) ≤ s.val % 64 := Nat.div_le_self _ _
  rw [low6, shr_small d i, shr_small d ⟨s.val % 64, by omega⟩, WordCmp.cmpi_eq_ofNat (by omega) (by dsimp only; omega)]
theorem IsMask.and {m n : ℕ} {k l : IVec ⟨2, ![m, n]⟩ 1} {P Q : Fin m → Fin n → Bool} (hk : IsMask k P) (hl : IsMask l Q) :
    IsMask (andi k l) fun i j => P i j && Q i j := by
  intro i j; pointwise; rw [hk i j, hl i j, andi_ofBool]
theorem IsMask.neg {k : IVec S64x256 1} {P : Fin 64 → Fin 256 → Bool} (hk : IsMask k P) : IsMask (neg k) fun i j => !P i j := by
  intro i j; pointwise [Stages.neg]; rw [hk i j, xori_ofBool]
theorem eyeC_mask : IsMask (cmpi .eq rc li) fun i s => decide (i.val = s.val % 64) := by
  intro i s
  pointwise [rc, li, lc]
  rw [low6, WordCmp.cmpi_eq_ofNat (by omega) (by omega)]
theorem eyeH_mask : IsMask eyeH fun i j => decide (i = j) := by
  intro i j
  pointwise [eyeH]
  rw [WordCmp.cmpi_eq_ofNat (by omega) (by omega)]
  simp only [Fin.ext_iff]
theorem chunkOf_mask (ck : Fin 4) : IsMask (cmpi .eq chunkOf (broadcast S64x256 (BitVec.ofNat 32 ck.val))) fun _ s => decide (s.val / 64 = ck.val) := by
  intro i s
  pointwise [chunkOf, lc]
  rw [shr6, WordCmp.cmpi_eq_ofNat (by omega) (by omega)]

/-! ## Products -/

theorem Is.mmB {a : FVec Ideal S256x256 .bf16} {b : FVec Ideal S256x64 .bf16} {A : Matrix (Fin 256) (Fin 256) ℝ} {B : Matrix (Fin 256) (Fin 64) ℝ}
    (ha : Is a A) (hb : Is b B) : Is (mmB a b) (A * B) := by
  intro i j; pointwise [Stages.mmB]; simp only [ha _ _, hb _ _, ← EReal.coe_mul, coe_sum]; rfl
theorem Is.mmT {a : FVec Ideal S256x256 .bf16} {b : FVec Ideal S256x128 .bf16} {A : Matrix (Fin 256) (Fin 256) ℝ} {B : Matrix (Fin 256) (Fin 128) ℝ}
    (ha : Is a A) (hb : Is b B) : Is (mmT b a) (A * B) := by
  intro i j; pointwise [Stages.mmT]; simp only [ha _ _, hb _ _, ← EReal.coe_mul, coe_sum]; rfl
theorem Is.nt {a b : FVec Ideal S256x64 .bf16} {A B : Matrix (Fin 256) (Fin 64) ℝ} (ha : Is a A) (hb : Is b B) : Is (nt a b) (A * B.transpose) := by
  intro i j; pointwise [Stages.nt]; simp only [ha _ _, hb _ _, ← EReal.coe_mul, coe_sum]; rfl
theorem Is.tn {a b : FVec Ideal S64x64 .bf16} {A B : Matrix (Fin 64) (Fin 64) ℝ} (ha : Is a A) (hb : Is b B) : Is (tn a b) (A.transpose * B) := by
  intro i j; pointwise [Stages.tn]; simp only [ha _ _, hb _ _, ← EReal.coe_mul, coe_sum]; rfl
theorem Is.mm {a b : FVec Ideal S64x64 .bf16} {A B : Matrix (Fin 64) (Fin 64) ℝ} (ha : Is a A) (hb : Is b B) : Is (mm a b) (A * B) := by
  intro i j; pointwise [Stages.mm]; simp only [ha _ _, hb _ _, ← EReal.coe_mul, coe_sum]; rfl

/-! ## Four matrices side by side -/

/-- Row `t` of chunk `ck`. -/
def at64 (ck : Fin 4) (t : Fin 64) : Fin 256 := ⟨64 * ck.val + t.val, by omega⟩
def chunkIx (s : Fin 256) : Fin 4 := ⟨s.val / 64, by omega⟩

/-- Entries only between times of one chunk. -/
def BD (M : Matrix (Fin 256) (Fin 256) ℝ) : Prop := ∀ t s : Fin 256, t.val / 64 ≠ s.val / 64 → M t s = 0

/-- The four diagonal blocks of `M`, side by side. -/
def IsC {φ : FTy} (v : FVec Ideal S64x256 φ) (M : Matrix (Fin 256) (Fin 256) ℝ) : Prop :=
  ∀ i s, v (ix2 i s) = ((M (at64 (chunkIx s) i) s : ℝ) : EReal)

theorem blk_is : Is (blk (F := Ideal)) (Matrix.of fun t s : Fin 256 => if t.val / 64 = s.val / 64 then (1 : ℝ) else 0) := by
  have h := (m64_mask.select is_ones is_zeros).lo
  intro t s
  refine (h t s).trans ?_
  simp

theorem IsC.bdiag {z : FVec Ideal S64x256 .bf16} {M : Matrix (Fin 256) (Fin 256) ℝ} (h : IsC z M) (hM : BD M) : Is (bdiag z) M := by
  intro t s
  have hb := blk_is t s
  pointwise [Stages.bdiag]
  rw [hb]
  by_cases hts : t.val / 64 = s.val / 64
  · have e : ∀ u : Fin 64, u.val = t.val % 64 → z (ix2 u s) = ((M t s : ℝ) : EReal) := by
      intro u hu
      rw [h u s]
      congr 2
      apply Fin.ext; simp only [at64, chunkIx]; omega
    simp only [Matrix.of_apply, if_pos hts, EReal.coe_one, mul_one]
    split_ifs <;> exact e _ (by dsimp only; omega)
  · simp only [Matrix.of_apply, if_neg hts, EReal.coe_zero, mul_zero, hM t s hts]

theorem IsC.lo {z : FVec Ideal S64x256 .f32} {M : Matrix (Fin 256) (Fin 256) ℝ} (h : IsC z M) : IsC (lo z) M := by
  intro i j; rw [← h i j]; pointwise [Stages.lo]
theorem IsC.add {z w : FVec Ideal S64x256 .f32} {M N : Matrix (Fin 256) (Fin 256) ℝ} (h : IsC z M) (h' : IsC w N) : IsC (addf z w) (M + N) := by
  intro i j; pointwise; rw [h i j, h' i j, ← EReal.coe_add]; rfl
theorem IsC.mmC {a : FVec Ideal S64x256 .bf16} {b : FVec Ideal S256x256 .bf16} {A B : Matrix (Fin 256) (Fin 256) ℝ}
    (ha : IsC a A) (hb : Is b B) (hB : BD B) : IsC (mmC a b) (A * B) := by
  intro i s
  pointwise [Stages.mmC]
  simp only [ha _ _, hb _ _, ← EReal.coe_mul, coe_sum]
  congr 1
  rw [Matrix.mul_apply]
  refine Finset.sum_congr rfl fun u _ => ?_
  by_cases hu : u.val / 64 = s.val / 64
  · rw [show chunkIx u = chunkIx s from Fin.ext hu]
  · rw [hB u s hu, mul_zero, mul_zero]
theorem IsC.keep {k : IVec S64x256 1} {P : Fin 64 → Fin 256 → Bool} (hk : IsMask k P) {z : FVec Ideal S64x256 .f32} {M : Matrix (Fin 256) (Fin 256) ℝ}
    (h : IsC z M) (Q : Fin 256 → Fin 256 → Prop) [∀ t s, Decidable (Q t s)] (hQ : ∀ i s, P i s = decide (Q (at64 (chunkIx s) i) s)) :
    IsC (keepC k z) (Matrix.of fun t s => if Q t s then M t s else 0) := by
  intro i s
  pointwise [keepC, zeros]
  rw [hk i s, select_ofBool, h i s, hQ i s, ← EReal.coe_zero, coe_ite]
  simp
theorem eyeC_isC : IsC (eyeC (F := Ideal)) 1 := by
  intro i s
  refine (eyeC_mask.select is_ones is_zeros i s).trans ?_
  simp only [Matrix.of_apply, Matrix.zero_apply, decide_eq_true_eq, Matrix.one_apply]
  congr 1
  refine if_congr ?_ rfl rfl
  rw [Fin.ext_iff]; simp only [at64, chunkIx]; omega
theorem Is.compact {l : FVec Ideal S256x256 .f32} {M : Matrix (Fin 256) (Fin 256) ℝ} (h : Is l M) : IsC (compact l) M := by
  have hb : ∀ ck : Fin 4, Is (band l ck) (Matrix.of fun (i : Fin 64) (s : Fin 256) => if s.val / 64 = ck.val then M (at64 ck i) s else 0) := by
    intro ck i s
    have e : Is (extractStridedSlice S64x256 ![64 * ck.val, 0] l (band_slices ck)) (Matrix.of fun i s => M (at64 ck i) s) := by
      intro i s
      refine Eq.trans ?_ (h (at64 ck i) s)
      pointwise
      congr 2
    refine ((chunkOf_mask ck).select e is_zeros i s).trans ?_
    simp
  intro i s
  refine ((((is_zeros.add (hb 0)).add (hb 1)).add (hb 2)).add (hb 3) i s).trans ?_
  congr 1
  have key : ∀ c : Fin 4, (((0 + if c.val = 0 then M (at64 0 i) s else 0) + if c.val = 1 then M (at64 1 i) s else 0)
      + if c.val = 2 then M (at64 2 i) s else 0) + (if c.val = 3 then M (at64 3 i) s else 0) = M (at64 c i) s := by
    intro c; fin_cases c <;> simp
  exact key (chunkIx s)

end Cert.KernelIdeal.Stages

end
-- ==== Proof.Chain.lean ====
/- One head of one pair over a loaded block: what the kernel computes for a chunk of 64 times is the recurrence run over that chunk. -/
module

public import proofs.«01_k».proof.Proof.Lift

@[expose] public section

set_option maxRecDepth 16384

noncomputable section

namespace Cert.KernelIdeal.Stages

open Cert.KernelIdeal Cert.KernelIdeal.Gen Idealize.ShloMosaic Idealize.ShloMosaic.TcCoe

theorem Is.congr {m n : ℕ} {φ : FTy} {v : FVec Ideal ⟨2, ![m, n]⟩ φ} {f g : Matrix (Fin m) (Fin n) ℝ} (h : Is v f) (e : ∀ i j, f i j = g i j) : Is v g := by
  intro i j; rw [h i j, e i j]

/-! ## The triangular inverse -/

theorem BD.mul {A B : Matrix (Fin 256) (Fin 256) ℝ} (hA : BD A) (hB : BD B) : BD (A * B) := by
  intro t s h
  rw [Matrix.mul_apply]
  refine Finset.sum_eq_zero fun u _ => ?_
  by_cases hu : t.val / 64 = u.val / 64
  · rw [hB u s (by omega), mul_zero]
  · rw [hA t u hu, zero_mul]
theorem BD.add {A B : Matrix (Fin 256) (Fin 256) ℝ} (hA : BD A) (hB : BD B) : BD (A + B) := by
  intro t s h; rw [Matrix.add_apply, hA t s h, hB t s h, add_zero]
theorem bd_one : BD 1 := by
  intro t s h; exact Matrix.one_apply_ne fun e => h (by rw [e])
theorem BD.keep {A : Matrix (Fin 256) (Fin 256) ℝ} (hA : BD A) (Q : Fin 256 → Fin 256 → Prop) [∀ t s, Decidable (Q t s)] :
    BD (Matrix.of fun t s => if Q t s then A t s else 0) := by
  intro t s h; simp [hA t s h]

theorem sq_isC {a : FVec Ideal S64x256 .bf16} {A : Matrix (Fin 256) (Fin 256) ℝ} (h : IsC a A) (hA : BD A) : IsC (sq a) (A * A) :=
  (h.mmC (h.bdiag hA) hA).lo
theorem horner_isC {z : FVec Ideal S64x256 .f32} {q : FVec Ideal S64x256 .bf16} {Z Q : Matrix (Fin 256) (Fin 256) ℝ} (hz : IsC z Z) (hq : IsC q Q)
    (hQ : BD Q) : IsC (horner z q) (Z + Z * Q) := hz.add (hz.lo.mmC (hq.bdiag hQ) hQ)

variable (rev : Bool)

/-- The couplings of `L` within blocks of `d`, and those between the two halves of a block of `2 d`. -/
def inD (d : ℕ) (L : Matrix (Fin 256) (Fin 256) ℝ) : Matrix (Fin 256) (Fin 256) ℝ := Matrix.of fun t s => if t.val / d = s.val / d then L t s else 0
def crossD (d : ℕ) (L : Matrix (Fin 256) (Fin 256) ℝ) : Matrix (Fin 256) (Fin 256) ℝ :=
  Matrix.of fun t s => if t.val / (d * 2) = s.val / (d * 2) ∧ ¬t.val / d = s.val / d then L t s else 0

theorem at64_div (i : Fin 64) (s : Fin 256) (d : Fin 3) :
    (i.val / 2 ^ (d.val + 3) = s.val % 64 / 2 ^ (d.val + 3)) ↔ (at64 (chunkIx s) i).val / 2 ^ (d.val + 3) = s.val / 2 ^ (d.val + 3) := by
  simp only [at64, chunkIx]
  fin_cases d <;> norm_num <;> omega

theorem inD_isC {l : FVec Ideal S64x256 .f32} {L : Matrix (Fin 256) (Fin 256) ℝ} (h : IsC l L) (d : Fin 3) :
    IsC (keepC (same (BitVec.ofNat 32 (d.val + 3))) l) (inD (2 ^ (d.val + 3)) L) :=
  h.keep (same_mask d) (fun t s => t.val / 2 ^ (d.val + 3) = s.val / 2 ^ (d.val + 3)) fun i s => decide_eq_decide.mpr (at64_div i s d)

theorem twice_isC {l z : FVec Ideal S64x256 .f32} {k : IVec S64x256 1} {P : Fin 64 → Fin 256 → Bool} (hk : IsMask k P) (d : ℕ) {L A X : Matrix (Fin 256) (Fin 256) ℝ}
    (hP : ∀ i s, P i s = decide ((at64 (chunkIx s) i).val / (d * 2) = s.val / (d * 2) ∧ ¬(at64 (chunkIx s) i).val / d = s.val / d))
    (hl : IsC l L) (hL : BD L) (hs : ∀ t s, L t s ≠ 0 → pos rev s < pos rev t) (hz : IsC z X) (hX : BD X)
    (hd : ∀ t s : Fin 256, (pos rev t / d = pos rev s / d ↔ t.val / d = s.val / d) ∧ (pos rev t / (d * 2) = pos rev s / (d * 2) ↔ t.val / (d * 2) = s.val / (d * 2)))
    (hA : inD d L = A) (hi : (1 - A) * X = 1) (hb : Wkv.InBlk (pos rev) d X) :
    ∃ Y, IsC (twice k l z) Y ∧ BD Y ∧ (1 - inD (d * 2) L) * Y = 1 ∧ Wkv.InBlk (pos rev) (d * 2) Y := by
  have hD : IsC (keepC k l) (crossD d L) := hl.keep hk (fun t s => t.val / (d * 2) = s.val / (d * 2) ∧ ¬t.val / d = s.val / d) hP
  have bD : BD (crossD d L) := hL.keep _
  have hc : Wkv.Cross (pos rev) d (crossD d L) := by
    intro t s h
    simp only [crossD, Matrix.of_apply, ne_eq, ite_eq_right_iff, Classical.not_imp] at h
    exact ⟨hs t s h.2, (hd t s).2.mpr h.1.1, fun e => h.1.2 ((hd t s).1.mp e)⟩
  obtain ⟨h1, h2⟩ := Wkv.inv_twice (pos rev) hc hi hb
  have e : A + crossD d L = inD (d * 2) L := by
    subst hA
    ext t s
    simp only [inD, crossD, Matrix.add_apply, Matrix.of_apply]
    by_cases e1 : t.val / d = s.val / d
    · have e2 : t.val / (d * 2) = s.val / (d * 2) := by rw [← Nat.div_div_eq_div_mul, ← Nat.div_div_eq_div_mul, e1]
      simp [e1, e2]
    · simp [e1]
  exact ⟨X + X * (crossD d L * X), horner_isC hz ((hD.lo.mmC (hz.lo.bdiag hX) hX).lo) (bD.mul hX), hX.add (hX.mul (bD.mul hX)), e ▸ h1, h2⟩

theorem pos_div (t s : Fin 256) : (pos rev t / 8 = pos rev s / 8 ↔ t.val / 8 = s.val / 8) ∧ (pos rev t / 16 = pos rev s / 16 ↔ t.val / 16 = s.val / 16)
    ∧ (pos rev t / 32 = pos rev s / 32 ↔ t.val / 32 = s.val / 32) ∧ (pos rev t / 64 = pos rev s / 64 ↔ t.val / 64 = s.val / 64) := by
  refine ⟨?_, ?_, ?_, ?_⟩ <;> cases rev <;> simp only [pos, cond_true, cond_false] <;> omega

/-- `T = (1 - L)⁻¹` for a strictly triangular `L`. -/
theorem inv_isC {l : FVec Ideal S64x256 .f32} {L : Matrix (Fin 256) (Fin 256) ℝ} (hl : IsC l L) (hL : BD L)
    (hs : ∀ t s, L t s ≠ 0 → pos rev s < pos rev t) : ∃ T, IsC (inv l) T ∧ BD T ∧ (1 - L) * T = 1 := by
  have h8 : IsC (keepC (same 3#32) l) (inD 8 L) := inD_isC hl 0
  have b8 : BD (inD 8 L) := hL.keep _
  have s8 : Wkv.Supp (pos rev) 8 1 (inD 8 L) := by
    intro t s h
    simp only [inD, Matrix.of_apply, ne_eq, ite_eq_right_iff, Classical.not_imp] at h
    exact ⟨hs t s h.2, (pos_div rev t s).1.mpr h.1⟩
  obtain ⟨i8, k8⟩ := Wkv.inv_eight (pos rev) s8 rfl rfl rfl
  have p2 := sq_isC h8.lo b8
  have bp2 := b8.mul b8
  have x8 := horner_isC (horner_isC (eyeC_isC.add h8) p2 bp2) (sq_isC p2 bp2) (bp2.mul bp2)
  have bx : BD _ := ((bd_one.add b8).add ((bd_one.add b8).mul bp2)).add (((bd_one.add b8).add ((bd_one.add b8).mul bp2)).mul (bp2.mul bp2))
  have m3 : IsMask (same 3#32) fun i s => decide (i.val / 8 = s.val % 64 / 8) := same_mask 0
  have m4 : IsMask (same 4#32) fun i s => decide (i.val / 16 = s.val % 64 / 16) := same_mask 1
  have m5 : IsMask (same 5#32) fun i s => decide (i.val / 32 = s.val % 64 / 32) := same_mask 2
  have div0 : ∀ (i : Fin 64) (s : Fin 256), i.val / 8 = s.val % 64 / 8 ↔ (at64 (chunkIx s) i).val / 8 = s.val / 8 := fun i s => at64_div i s 0
  have div1 : ∀ (i : Fin 64) (s : Fin 256), i.val / 16 = s.val % 64 / 16 ↔ (at64 (chunkIx s) i).val / 16 = s.val / 16 := fun i s => at64_div i s 1
  have div2 : ∀ (i : Fin 64) (s : Fin 256), i.val / 32 = s.val % 64 / 32 ↔ (at64 (chunkIx s) i).val / 32 = s.val / 32 := fun i s => at64_div i s 2
  obtain ⟨X16, x16, b16, i16, k16⟩ := twice_isC rev (m4.and m3.neg) 8 (fun i s => by
      simp only [div0, div1, Bool.decide_and, decide_not, Nat.reduceMul]) hl hL hs x8 bx
    (fun t s => ⟨(pos_div rev t s).1, (pos_div rev t s).2.1⟩) rfl i8 k8
  obtain ⟨X32, x32, b32, i32, k32⟩ := twice_isC rev (m5.and m4.neg) 16 (fun i s => by
      simp only [div1, div2, Bool.decide_and, decide_not, Nat.reduceMul]) hl hL hs x16 b16
    (fun t s => ⟨(pos_div rev t s).2.1, (pos_div rev t s).2.2.1⟩) rfl i16 k16
  obtain ⟨T, hT, bT, iT, _⟩ := twice_isC rev m5.neg 32 (fun i s => by
      have h1 : (at64 (chunkIx s) i).val / 64 = s.val / 64 := by simp only [at64, chunkIx]; omega
      simp only [div2, h1, true_and, decide_not, Nat.reduceMul]) hl hL hs x32 b32
    (fun t s => ⟨(pos_div rev t s).2.2.1, (pos_div rev t s).2.2.2⟩) rfl i32 k32
  have e : inD (32 * 2) L = L := by
    ext t s
    simp only [inD, Matrix.of_apply]
    split
    · rfl
    · exact (hL t s (by assumption)).symm
  exact ⟨T, hT, bT, e ▸ iT⟩

/-! ## Sums over a chunk -/

theorem at64_inj (ck : Fin 4) : Function.Injective (at64 ck) := by
  intro a b h; have := congrArg Fin.val h; simp only [at64] at this; exact Fin.ext (by omega)
theorem sum_chunk (ck : Fin 4) (f : Fin 256 → ℝ) (h : ∀ s : Fin 256, s.val / 64 ≠ ck.val → f s = 0) : ∑ s, f s = ∑ s, f (at64 ck s) := by
  rw [← Finset.sum_image (s := Finset.univ) (g := at64 ck) (f := f) (fun a _ b _ e => at64_inj ck e)]
  refine (Finset.sum_subset (Finset.subset_univ _) fun s _ hs => h s fun e => hs ?_).symm
  exact Finset.mem_image.mpr ⟨⟨s.val % 64, by omega⟩, Finset.mem_univ _, Fin.ext (by simp only [at64]; omega)⟩

/-- A time's position within its chunk, and the time at a position. -/
def ρc (t : Fin 64) : ℕ := bif rev then 63 - t.val else t.val
def posc (n : ℕ) : Fin 64 := ⟨(bif rev then 63 - n else n) % 64, by omega⟩
theorem ρc_posc : ∀ n < 64, ρc rev (posc rev n) = n := by
  intro n hn; cases rev <;> simp only [ρc, posc, cond_true, cond_false] <;> omega
theorem posc_ρc : ∀ s, ρc rev s < 64 ∧ posc rev (ρc rev s) = s := by
  intro s; refine ⟨?_, Fin.ext ?_⟩ <;> cases rev <;> simp only [ρc, posc, cond_true, cond_false] <;> omega
theorem pos_lt (ck : Fin 4) (t s : Fin 64) : pos rev (at64 ck s) < pos rev (at64 ck t) ↔ ρc rev s < ρc rev t := by
  cases rev <;> simp only [ρc, pos, at64, cond_true, cond_false] <;> omega
theorem pos_le (ck : Fin 4) (t s : Fin 64) : pos rev (at64 ck s) ≤ pos rev (at64 ck t) ↔ ρc rev s ≤ ρc rev t := by
  cases rev <;> simp only [ρc, pos, at64, cond_true, cond_false] <;> omega
theorem at64_chunk (ck : Fin 4) (t : Fin 64) : (at64 ck t).val / 64 = ck.val := by simp only [at64]; omega

/-- Rows against earlier rows of the chunk, and against rows not later. -/
def ms (A B : Matrix (Fin 256) (Fin 64) ℝ) : Matrix (Fin 256) (Fin 256) ℝ :=
  Matrix.of fun t s => if t.val / 64 = s.val / 64 ∧ pos rev s < pos rev t then ∑ l, A t l * B s l else 0
def mi (A B : Matrix (Fin 256) (Fin 64) ℝ) : Matrix (Fin 256) (Fin 256) ℝ :=
  Matrix.of fun t s => if t.val / 64 = s.val / 64 ∧ pos rev s ≤ pos rev t then ∑ l, A t l * B s l else 0

theorem ms_mul (A B W : Matrix (Fin 256) (Fin 64) ℝ) (ck : Fin 4) (t j : Fin 64) : (ms rev A B * W) (at64 ck t) j
    = ∑ s, (if ρc rev s < ρc rev t then ∑ l, A (at64 ck t) l * B (at64 ck s) l else 0) * W (at64 ck s) j := by
  rw [Matrix.mul_apply, sum_chunk ck]
  · refine Finset.sum_congr rfl fun s _ => ?_
    simp only [ms, Matrix.of_apply, at64_chunk, true_and, pos_lt]
  · intro s h
    simp only [ms, Matrix.of_apply, at64_chunk, if_neg (fun e : ck.val = s.val / 64 ∧ _ => h e.1.symm), zero_mul]
theorem mi_mul (A B W : Matrix (Fin 256) (Fin 64) ℝ) (ck : Fin 4) (t j : Fin 64) : (mi rev A B * W) (at64 ck t) j
    = ∑ s, (if ρc rev s ≤ ρc rev t then ∑ l, A (at64 ck t) l * B (at64 ck s) l else 0) * W (at64 ck s) j := by
  rw [Matrix.mul_apply, sum_chunk ck]
  · refine Finset.sum_congr rfl fun s _ => ?_
    simp only [mi, Matrix.of_apply, at64_chunk, true_and, pos_le]
  · intro s h
    simp only [mi, Matrix.of_apply, at64_chunk, if_neg (fun e : ck.val = s.val / 64 ∧ _ => h e.1.symm), zero_mul]

theorem strict_is {a b : FVec Ideal S256x64 .bf16} {A B : Matrix (Fin 256) (Fin 64) ℝ} (ha : Is a A) (hb : Is b B) :
    Is (keep (strict rev) (nt a b)) (ms rev A B) :=
  ((strict_mask rev).select (ha.nt hb) is_zeros).congr fun t s => by simp [ms, Matrix.mul_apply]
theorem incl_is {a b : FVec Ideal S256x64 .bf16} {A B : Matrix (Fin 256) (Fin 64) ℝ} (ha : Is a A) (hb : Is b B) :
    Is (keep (incl rev) (nt a b)) (mi rev A B) :=
  ((incl_mask rev).select (ha.nt hb) is_zeros).congr fun t s => by simp [mi, Matrix.mul_apply]
theorem bd_ms (A B : Matrix (Fin 256) (Fin 64) ℝ) : BD (ms rev A B) := by
  intro t s h; simp [ms, h]

/-! ## The scaled rows, as real numbers -/

/-- A block of 256 times of a pair of heads. -/
structure RBlk where
  lw : Matrix (Fin 256) (Fin 128) ℝ
  r : Matrix (Fin 256) (Fin 128) ℝ
  v : Matrix (Fin 256) (Fin 128) ℝ
  n : Matrix (Fin 256) (Fin 128) ℝ
  k : Matrix (Fin 256) (Fin 128) ℝ
  b : Matrix (Fin 256) (Fin 128) ℝ

structure IsBlk (x : Blk Ideal) (X : RBlk) : Prop where
  lw : Is (flat (φ := .f32) x.lw) X.lw
  r : Is (flat (φ := .bf16) x.r) X.r
  v : Is (flat (φ := .bf16) x.v) X.v
  n : Is (flat (φ := .bf16) x.n) X.n
  k : Is (flat (φ := .bf16) x.k) X.k
  b : Is (flat (φ := .bf16) x.b) X.b

def cumR (lw : Matrix (Fin 256) (Fin 128) ℝ) : Matrix (Fin 256) (Fin 128) ℝ :=
  Matrix.of fun t j => ∑ s, (if t.val / 64 = s.val / 64 ∧ pos rev s ≤ pos rev t then 1 else 0) * lw s j
/-- The sum over a chunk, at its last time. -/
def totR (lw : Matrix (Fin 256) (Fin 128) ℝ) : Matrix (Fin 256) (Fin 128) ℝ :=
  Matrix.of fun t j => cumR rev lw (at64 (chunkIx t) (bif rev then 0 else 63)) j

/-- The 64 columns of head `hh`. -/
def colH (hh : Fin 2) (i : Fin 64) : Fin 128 := ⟨64 * hh.val + i.val, by omega⟩

theorem tri_is : Is (tri (F := Ideal) rev) (Matrix.of fun t s => if t.val / 64 = s.val / 64 ∧ pos rev s ≤ pos rev t then 1 else 0) :=
  ((incl_mask rev).select is_ones is_zeros).lo.congr fun t s => by simp

variable {x : Blk Ideal} {X : RBlk} (hx : IsBlk x X)
include hx

theorem cum_is : Is (cum rev x) (cumR rev X.lw) :=
  (((tri_is rev).mmT hx.lw.lo).add ((tri_is rev).mmT (hx.lw.sub hx.lw.lo.up).lo)).congr fun t j => by
    rw [sub_self, Matrix.mul_zero, add_zero, Matrix.mul_apply]; rfl

theorem lastRow_is (ck : Fin 4) : Is (lastRow rev (cum rev x) ck) (Matrix.of fun _ j => cumR rev X.lw (at64 ck (bif rev then 0 else 63)) j) := by
  intro i j
  refine Eq.trans ?_ (cum_is rev hx (at64 ck (bif rev then 0 else 63)) j)
  pointwise [lastRow]
  congr 2
  cases rev <;> rfl

theorem tot_is : Is (tot rev (cum rev x)) (totR rev X.lw) := by
  intro t j
  have h0 := lastRow_is rev hx 0
  have h1 := lastRow_is rev hx 1
  have h2 := lastRow_is rev hx 2
  have h3 := lastRow_is rev hx 3
  pointwise [tot]
  simp only [h0 _ _, h1 _ _, h2 _ _, h3 _ _, totR, Matrix.of_apply]
  split_ifs <;> congr 3 <;> (apply Fin.ext; simp only [chunkIx]; omega)

theorem winv_is : Is (winv rev x) (Matrix.of fun t j => Real.exp (-cumR rev X.lw t j)) :=
  (is_zeros.sub (cum_is rev hx)).exp.congr fun t j => by simp
theorem wd_is : Is (wd rev x) (Matrix.of fun t j => Real.exp (totR rev X.lw t j - cumR rev X.lw t j)) :=
  ((tot_is rev hx).sub (cum_is rev hx)).exp.congr fun t j => by simp
theorem wtot_is : Is (wtot rev x) (Matrix.of fun t j => Real.exp (totR rev X.lw t j)) := (tot_is rev hx).exp

omit hx in
theorem hd_is (hh : Fin 2) {φ : FTy} {z : FVec Ideal S256x128 φ} {Z : Matrix (Fin 256) (Fin 128) ℝ} (h : Is z Z) :
    Is (hd hh z) (Matrix.of fun t i => Z t (colH hh i)) := by
  intro t i
  refine Eq.trans ?_ (h t (colH hh i))
  pointwise [hd]
  congr 2
omit hx in
theorem chunk_is (ck : Fin 4) {φ : FTy} {z : FVec Ideal S256x64 φ} {Z : Matrix (Fin 256) (Fin 64) ℝ} (h : Is z Z) :
    Is (chunk ck z) (Matrix.of fun t i => Z (at64 ck t) i) := by
  intro t i
  refine Eq.trans ?_ (h (at64 ck t) i)
  pointwise [chunk]
  congr 2
omit hx in
theorem chunkHd_is (ck : Fin 4) (hh : Fin 2) {φ : FTy} {z : FVec Ideal S256x128 φ} {Z : Matrix (Fin 256) (Fin 128) ℝ} (h : Is z Z) :
    Is (chunkHd ck hh z) (Matrix.of fun t i => Z (at64 ck t) (colH hh i)) := by
  intro t i
  refine Eq.trans ?_ (h (at64 ck t) (colH hh i))
  pointwise [chunkHd]
  congr 2

variable (hh : Fin 2)

omit hx in
def raH (X : RBlk) : Matrix (Fin 256) (Fin 64) ℝ :=
  Matrix.of fun t i => -X.n t (colH hh i) * Real.exp (cumR rev X.lw t (colH hh i) - X.lw t (colH hh i))
omit hx in
def rrH (X : RBlk) : Matrix (Fin 256) (Fin 64) ℝ := Matrix.of fun t i => X.r t (colH hh i) * Real.exp (cumR rev X.lw t (colH hh i))
omit hx in
def rbH (X : RBlk) : Matrix (Fin 256) (Fin 64) ℝ := Matrix.of fun t i => X.b t (colH hh i) * Real.exp (-cumR rev X.lw t (colH hh i))
omit hx in
def rkH (X : RBlk) : Matrix (Fin 256) (Fin 64) ℝ := Matrix.of fun t i => X.k t (colH hh i) * Real.exp (-cumR rev X.lw t (colH hh i))
omit hx in
def rvH (X : RBlk) : Matrix (Fin 256) (Fin 64) ℝ := Matrix.of fun t i => X.v t (colH hh i)

theorem aH_is : Is (aH rev x hh) (raH rev hh X) :=
  hd_is hh ((is_zeros.sub hx.n.up).mul ((cum_is rev hx).sub hx.lw).exp).lo |>.congr fun t i => by simp [raH]
theorem rH_is : Is (rH rev x hh) (rrH rev hh X) := hd_is hh (hx.r.up.mul (cum_is rev hx).exp).lo
theorem bH_is : Is (bH rev x hh) (rbH rev hh X) := hd_is hh (hx.b.up.mul (winv_is rev hx)).lo
theorem kH_is : Is (kH rev x hh) (rkH rev hh X) := hd_is hh (hx.k.up.mul (winv_is rev hx)).lo
theorem vH_is : Is (vH x hh) (rvH hh X) := hd_is hh hx.v

/-- The rows the kernel solves for, with the equations they satisfy. -/
theorem wu_uv : ∃ WU UV : Matrix (Fin 256) (Fin 64) ℝ, Is (wu rev x hh) WU ∧ Is (uv rev x hh) UV
    ∧ WU = raH rev hh X + ms rev (raH rev hh X) (rbH rev hh X) * WU
    ∧ UV = ms rev (raH rev hh X) (rkH rev hh X) * rvH hh X + ms rev (raH rev hh X) (rbH rev hh X) * UV := by
  have hL : Is (lab rev x hh) _ := strict_is rev (aH_is rev hx hh) (bH_is rev hx hh)
  obtain ⟨T, hT, bT, e⟩ := inv_isC rev hL.compact (bd_ms rev _ _) fun t s h => by
    simp only [ms, Matrix.of_apply, ne_eq, ite_eq_right_iff, Classical.not_imp] at h
    exact h.1.2
  have hb : Is (tb rev x hh) T := hT.lo.bdiag bT
  have key : ∀ Z : Matrix (Fin 256) (Fin 64) ℝ, T * Z = Z + ms rev (raH rev hh X) (rbH rev hh X) * (T * Z) := by
    intro Z
    have e' : T = 1 + ms rev (raH rev hh X) (rbH rev hh X) * T := by
      rw [sub_mul, one_mul, sub_eq_iff_eq_add] at e
      exact e
    rw [← Matrix.mul_assoc]
    conv_lhs => rw [e', Matrix.add_mul, Matrix.one_mul]
  have hK : Is (lak rev x hh) _ := (strict_is rev (aH_is rev hx hh) (kH_is rev hx hh)).lo
  exact ⟨_, _, (hb.mmB (aH_is rev hx hh)).lo, (hb.mmB (hK.mmB (vH_is hx hh)).lo).lo, key _, key _⟩

/-! ## One chunk -/

omit hx in
/-- Chunk `ck` of head `hh`. -/
def ch (ck : Fin 4) (M : Matrix (Fin 256) (Fin 128) ℝ) (t i : Fin 64) : ℝ := M (at64 ck t) (colH hh i)

omit hx in
theorem cum_ch (lw : Matrix (Fin 256) (Fin 128) ℝ) (ck : Fin 4) (t i : Fin 64) :
    cumR rev lw (at64 ck t) (colH hh i) = Wkv.cum (ρc rev) (ch hh ck lw) t i := by
  simp only [cumR, Matrix.of_apply, Wkv.cum]
  rw [sum_chunk ck]
  · refine Finset.sum_congr rfl fun s _ => ?_
    simp only [at64_chunk, true_and, pos_le, ch, ite_mul, one_mul, zero_mul]
  · intro s h
    simp only [at64_chunk, if_neg (fun e : ck.val = s.val / 64 ∧ _ => h e.1.symm), zero_mul]

/-- The recurrence's run over a chunk, from the state `S`. -/
def runC (ck : Fin 4) (X : RBlk) (S : Matrix (Fin 64) (Fin 64) ℝ) (n : ℕ) : Matrix (Fin 64) (Fin 64) ℝ :=
  Matrix.of (Wkv.states (posc rev) (ch hh ck X.lw) (ch hh ck X.k) (fun t i => -ch hh ck X.n t i) (ch hh ck X.b) (ch hh ck X.v) S n)

theorem chunk_step (ck : Fin 4) {s : FVec Ideal S64x64 .f32} {S : Matrix (Fin 64) (Fin 64) ℝ} (hs : Is s S) :
    Is (y rev x hh ck s) (Matrix.of fun t j => ∑ i, X.r (at64 ck t) (colH hh i) * runC rev hh ck X S (ρc rev t + 1) i j)
    ∧ Is (next rev x hh ck s) (runC rev hh ck X S 64) := by
  obtain ⟨WU, UV, hw, hu, ew, eu⟩ := wu_uv rev hx hh
  have sol : Wkv.Solved (ρc rev) (ch hh ck X.lw) (ch hh ck X.r) (ch hh ck X.k) (fun t i => -ch hh ck X.n t i) (ch hh ck X.b) (ch hh ck X.v)
      (fun t i => WU (at64 ck t) i) (fun t j => UV (at64 ck t) j) := by
    constructor
    · intro t i
      have := congrFun (congrFun ew (at64 ck t)) i
      rw [Matrix.add_apply, ms_mul] at this
      simp only [raH, rbH, Matrix.of_apply, cum_ch] at this
      exact this
    · intro t j
      have := congrFun (congrFun eu (at64 ck t)) j
      rw [Matrix.add_apply, ms_mul, ms_mul] at this
      simp only [raH, rbH, rkH, rvH, Matrix.of_apply, cum_ch] at this
      exact this
  have hq : Is (q rev x hh) _ := ((rH_is rev hx hh).up.add ((incl_is rev (rH_is rev hx hh) (bH_is rev hx hh)).lo.mmB hw)).lo
  have hy : Is (yl rev x hh) _ := ((incl_is rev (rH_is rev hx hh) (bH_is rev hx hh)).lo.mmB hu).add
    ((incl_is rev (rH_is rev hx hh) (kH_is rev hx hh)).lo.mmB (vH_is hx hh))
  refine ⟨(((chunk_is ck hq).mm hs.lo).add (chunk_is ck hy)).congr fun t j => ?_, ?_⟩
  · refine Eq.trans ?_ (Wkv.out_eq (ρc_posc rev) (posc_ρc rev) sol S t j).symm
    simp only [Matrix.add_apply, Matrix.mul_apply (M := Matrix.of _) (N := S), Matrix.of_apply, mi_mul]
    simp only [rrH, rbH, rkH, rvH, Matrix.of_apply, cum_ch]
    rfl
  · have hd' : Is (decay rev x hh ck) (Matrix.of fun i l => if i = l then Real.exp (Wkv.cum (ρc rev) (ch hh ck X.lw) (bif rev then 0 else 63) l) else 0) := by
      have e : Is (broadcastTo S64x64 (shapeCast S1x64 (extractStridedSlice S1x64 ![64 * ck.val, 64 * hh.val] (wtot rev x) (firstRow_slices ck hh))
          shapeCasts_S1x64_S1x64) broadcasts_S1x64_S64x64) (Matrix.of fun _ l => Real.exp (Wkv.cum (ρc rev) (ch hh ck X.lw) (bif rev then 0 else 63) l)) := by
        intro i l
        refine Eq.trans ?_ ((wtot_is rev hx (at64 ck 0) (colH hh l)).trans ?_)
        · pointwise
          congr 2
        · simp only [Matrix.of_apply, totR]
          rw [show chunkIx (at64 ck 0) = ck from Fin.ext (by simp only [chunkIx, at64]; omega), cum_ch]
      refine (eyeH_mask.select e is_zeros).congr fun i l => ?_
      simp
    have hg : Is (g rev x hh ck) _ := (((chunkHd_is ck hh (hx.b.up.mul (wd_is rev hx)).lo).tn (chunk_is ck hw)).add hd').lo
    have hh' : Is (h rev x hh ck) _ := ((chunkHd_is ck hh (hx.b.up.mul (wd_is rev hx)).lo).tn (chunk_is ck hu)).add
      ((chunkHd_is ck hh (hx.k.up.mul (wd_is rev hx)).lo).tn (chunk_is ck (vH_is hx hh)))
    refine ((hg.mm hs.lo).add hh').congr fun i j => ?_
    have ht : ∀ i, Wkv.cum (ρc rev) (ch hh ck X.lw) (bif rev then 0 else 63) i = ∑ s, ch hh ck X.lw s i := by
      intro i
      refine Finset.sum_congr rfl fun s _ => if_pos ?_
      cases rev <;> simp only [ρc, cond_true, cond_false, Fin.val_zero] <;> omega
    refine Eq.trans ?_ (Wkv.end_eq (ρc_posc rev) (posc_ρc rev) sol S _ ht i j).symm
    have hc : ∀ t, chunkIx (at64 ck t) = ck := fun t => Fin.ext (by simp only [chunkIx, at64]; omega)
    simp only [Matrix.add_apply, Matrix.mul_apply, Matrix.transpose_apply, Matrix.of_apply, totR, hc, cum_ch, rvH]
    rfl

end Cert.KernelIdeal.Stages

end
-- ==== Proof.Match.lean ====
/- What the body's run leaves in its outputs and its scratch, by the names of `Proof.Stages`: the pieces the frame run found are the
outputs of the sixteen chains (two directions, four pairs, two heads) and their last states. -/
module

public import proofs.«01_k».proof.Proof.Gen.KernelIdeal.Frame
public import proofs.«01_k».proof.Proof.Stages

@[expose] public section

set_option maxRecDepth 65536

noncomputable section

namespace Cert.KernelIdeal.Stages

open Cert.KernelIdeal Cert.KernelIdeal.Gen Idealize.ShloMosaic Idealize.ShloMosaic.TcCoe Idealize.ShloMosaic.Tactic

variable {F : FTy → Type} [FloatOps F]

theorem inb_block : ∀ (p : Fin 4) (a : Fin S1x4x256x128.rank), ![0, p.val, 0, 0] a + S1x1x256x128.size a ≤ S1x4x256x128.size a := by decide
theorem inb_out : ∀ (p ck : Fin 4) (hh : Fin 2) (a : Fin S1x4x256x128.rank),
    ![0, p.val, 64 * ck.val, 64 * hh.val] a + S1x1x64x64.size a ≤ S1x4x256x128.size a := by decide
theorem inb_state : ∀ (d : Fin 2) (e : Fin 8) (a : Fin S2x8x64x64.rank),
    ![d.val, e.val, 0, 0] a + S1x1x64x64.size a ≤ S2x8x64x64.size a := by decide

/-- Where the pair `p` lies in a window of four pairs. -/
def rPair (p : Fin 4) : Rect S1x4x256x128 := Rect.unit ![0, p.val, 0, 0] S1x1x256x128.size (inb_block p)
/-- Where one head's chunk of a pair lies. -/
def rOut (p ck : Fin 4) (hh : Fin 2) : Rect S1x4x256x128 :=
  Rect.unit ![0, p.val, 64 * ck.val, 64 * hh.val] S1x1x64x64.size (inb_out p ck hh)
/-- Where the state of one head lies. -/
def rState (d : Fin 2) (e : Fin 8) : Rect S2x8x64x64 := Rect.unit ![d.val, e.val, 0, 0] S1x1x64x64.size (inb_state d e)

/-- The pair `p` of a staged window. -/
def load {e : EltTy} (a : Memref sig .tc .vmem S1x4x256x128 e) (ha : a.IsWhole) (x : Vec F S1x4x256x128 e) (p : Fin 4) : Vec F S1x1x256x128 e :=
  View.readAt (Elt F) a.view (rPair p).toLoadRect (ha.unread x)
def load0 (a : Memref sig .tc .vmem S2x8x64x64 .f32) (d : Fin 2) (e : Fin 8) : Vec F S1x1x64x64 .f32 :=
  a.view.readCov [⟨Rect.unit ![0, 0, 0, 0] S2x8x64x64.size inb_S2x8x64x64_S2x8x64x64_0_0_0_0, k0_pay1⟩] (rState d e).toLoadRect
def loadS (a : Memref sig .tc .vmem S2x8x64x64 .f32) (ha : a.IsWhole) (x : Vec F S2x8x64x64 .f32) (d : Fin 2) (e : Fin 8) : Vec F S1x1x64x64 .f32 :=
  View.readAt (Elt F) a.view (rState d e).toLoadRect (ha.unread x)

def head (p : Fin 4) (hh : Fin 2) : Fin 8 := ⟨2 * p.val + hh.val, by omega⟩
def unflat (s : Vec F S1x1x64x64 .f32) : FVec F S64x64 .f32 := shapeCast S64x64 s shapeCasts_S1x1x64x64_S64x64

/-- What is written for one head of one pair at step `n`. -/
def pieceO (rev : Bool) (x : Fin 4 → Blk F) (s : Fin 8 → Vec F S1x1x64x64 .f32) (n p : Fin 4) (hh : Fin 2) : View.Piece (Elt F) S1x4x256x128 .f32 :=
  ⟨rOut p (order rev n) hh, out rev (x p) hh (unflat (s (head p hh))) n⟩
def rowO (rev : Bool) (x : Fin 4 → Blk F) (s : Fin 8 → Vec F S1x1x64x64 .f32) (n : Fin 4) (l : List (View.Piece (Elt F) S1x4x256x128 .f32)) :
    List (View.Piece (Elt F) S1x4x256x128 .f32) :=
  pieceO rev x s n 3 1 :: pieceO rev x s n 3 0 :: pieceO rev x s n 2 1 :: pieceO rev x s n 2 0 ::
    pieceO rev x s n 1 1 :: pieceO rev x s n 1 0 :: pieceO rev x s n 0 1 :: pieceO rev x s n 0 0 :: l
/-- The pieces of one direction's output, last first. -/
def piecesO (rev : Bool) (x : Fin 4 → Blk F) (s : Fin 8 → Vec F S1x1x64x64 .f32) : List (View.Piece (Elt F) S1x4x256x128 .f32) :=
  rowO rev x s 3 (rowO rev x s 2 (rowO rev x s 1 (rowO rev x s 0 [])))

def pieceS (d : Fin 2) (rev : Bool) (x : Fin 4 → Blk F) (s : Fin 8 → Vec F S1x1x64x64 .f32) (p : Fin 4) (hh : Fin 2) : View.Piece (Elt F) S2x8x64x64 .f32 :=
  ⟨rState d (head p hh), end' rev (x p) hh (s (head p hh))⟩
def rowS (xf xb : Fin 4 → Blk F) (sf sb : Fin 8 → Vec F S1x1x64x64 .f32) (p : Fin 4) (l : List (View.Piece (Elt F) S2x8x64x64 .f32)) :
    List (View.Piece (Elt F) S2x8x64x64 .f32) :=
  pieceS 1 true xb sb p 1 :: pieceS 1 true xb sb p 0 :: pieceS 0 false xf sf p 1 :: pieceS 0 false xf sf p 0 :: l
/-- The pieces of the scratch over those written before, last first. -/
def piecesS (xf xb : Fin 4 → Blk F) (sf sb : Fin 8 → Vec F S1x1x64x64 .f32) (l : List (View.Piece (Elt F) S2x8x64x64 .f32)) :
    List (View.Piece (Elt F) S2x8x64x64 .f32) :=
  rowS xf xb sf sb 3 (rowS xf xb sf sb 2 (rowS xf xb sf sb 1 (rowS xf xb sf sb 0 l)))

section
variable (c : Dev nD) (i : grid0.Coords) (arg2 : Memref sig .tc .vmem S1x4x256x128 .bf16) (harg2 : arg2.IsWhole) (arg3 : Memref sig .tc .vmem S1x4x256x128 .bf16) (harg3 : arg3.IsWhole) (arg4 : Memref sig .tc .vmem S1x4x256x128 .bf16) (harg4 : arg4.IsWhole) (arg5 : Memref sig .tc .vmem S1x4x256x128 .bf16) (harg5 : arg5.IsWhole) (arg6 : Memref sig .tc .vmem S1x4x256x128 .bf16) (harg6 : arg6.IsWhole) (arg7 : Memref sig .tc .vmem S1x4x256x128 .f32) (harg7 : arg7.IsWhole) (arg8 : Memref sig .tc .vmem S1x4x256x128 .bf16) (harg8 : arg8.IsWhole) (arg9 : Memref sig .tc .vmem S1x4x256x128 .bf16) (harg9 : arg9.IsWhole) (arg10 : Memref sig .tc .vmem S1x4x256x128 .bf16) (harg10 : arg10.IsWhole) (arg11 : Memref sig .tc .vmem S1x4x256x128 .bf16) (harg11 : arg11.IsWhole) (arg12 : Memref sig .tc .vmem S1x4x256x128 .bf16) (harg12 : arg12.IsWhole) (arg13 : Memref sig .tc .vmem S1x4x256x128 .f32) (harg13 : arg13.IsWhole) (arg14 : Memref sig .tc .vmem S1x4x256x128 .f32) (harg14 : arg14.IsWhole) (arg15 : Memref sig .tc .vmem S1x4x256x128 .f32) (harg15 : arg15.IsWhole) (arg16 : Memref sig .tc .vmem S2x8x64x64 .f32) (harg16 : arg16.IsWhole)
variable (x0 x1 x2 x3 x4 : Vec F S1x4x256x128 .bf16) (x5 : Vec F S1x4x256x128 .f32) (x6 x7 x8 x9 x10 : Vec F S1x4x256x128 .bf16)
  (x11 : Vec F S1x4x256x128 .f32) (xs0 : Vec F S2x8x64x64 .f32)

/-- The pairs of the windows of one direction: receptance, value, key norm, key, rank-one factor, log decay. -/
def blocks (a2 : Memref sig .tc .vmem S1x4x256x128 .bf16) (h2 : a2.IsWhole) (a3 : Memref sig .tc .vmem S1x4x256x128 .bf16) (h3 : a3.IsWhole)
    (a4 : Memref sig .tc .vmem S1x4x256x128 .bf16) (h4 : a4.IsWhole) (a5 : Memref sig .tc .vmem S1x4x256x128 .bf16) (h5 : a5.IsWhole)
    (a6 : Memref sig .tc .vmem S1x4x256x128 .bf16) (h6 : a6.IsWhole) (a7 : Memref sig .tc .vmem S1x4x256x128 .f32) (h7 : a7.IsWhole)
    (z0 z1 z2 z3 z4 : Vec F S1x4x256x128 .bf16) (z5 : Vec F S1x4x256x128 .f32) (p : Fin 4) : Blk F where
  lw := load a7 h7 z5 p
  r := load a2 h2 z0 p
  v := load a3 h3 z1 p
  n := load a4 h4 z2 p
  k := load a5 h5 z3 p
  b := load a6 h6 z4 p

/-- The pieces of both outputs and of the scratch at a sequence's first point, whose states are the zeroed scratch read back. -/
theorem pieces_A (hc0 : cond0_0 i) : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1
      = piecesO false (blocks arg2 harg2 arg3 harg3 arg4 harg4 arg5 harg5 arg6 harg6 arg7 harg7 x0 x1 x2 x3 x4 x5) (load0 arg16 0)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.1
      = piecesO true (blocks arg8 harg8 arg9 harg9 arg10 harg10 arg11 harg11 arg12 harg12 arg13 harg13 x6 x7 x8 x9 x10 x11) (load0 arg16 1)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1
      = piecesS (blocks arg2 harg2 arg3 harg3 arg4 harg4 arg5 harg5 arg6 harg6 arg7 harg7 x0 x1 x2 x3 x4 x5) (blocks arg8 harg8 arg9 harg9 arg10 harg10 arg11 harg11 arg12 harg12 arg13 harg13 x6 x7 x8 x9 x10 x11) (load0 arg16 0) (load0 arg16 1)
          [⟨Rect.unit ![0, 0, 0, 0] S2x8x64x64.size inb_S2x8x64x64_S2x8x64x64_0_0_0_0, k0_pay1⟩] := by
  refine ⟨?_, ?_, ?_⟩ <;> sl_kernel_rfl

/-- The same at the other points, whose states are those the point before left. -/
theorem pieces_B (hc0 : ¬cond0_0 i) : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1
      = piecesO false (blocks arg2 harg2 arg3 harg3 arg4 harg4 arg5 harg5 arg6 harg6 arg7 harg7 x0 x1 x2 x3 x4 x5) (loadS arg16 harg16 xs0 0)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.1
      = piecesO true (blocks arg8 harg8 arg9 harg9 arg10 harg10 arg11 harg11 arg12 harg12 arg13 harg13 x6 x7 x8 x9 x10 x11) (loadS arg16 harg16 xs0 1)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.2.1
      = piecesS (blocks arg2 harg2 arg3 harg3 arg4 harg4 arg5 harg5 arg6 harg6 arg7 harg7 x0 x1 x2 x3 x4 x5) (blocks arg8 harg8 arg9 harg9 arg10 harg10 arg11 harg11 arg12 harg12 arg13 harg13 x6 x7 x8 x9 x10 x11) (loadS arg16 harg16 xs0 0) (loadS arg16 harg16 xs0 1) [] := by
  refine ⟨?_, ?_, ?_⟩ <;> sl_kernel_rfl

end
end Cert.KernelIdeal.Stages

end
-- ==== Proof.Block.lean ====
/- From one chunk to a whole sequence: a block's four chunks run the recurrence over its 256 times, and what the body stores is the
recurrence's outputs and its state. -/
module

public import proofs.«01_k».proof.Proof.Chain
public import proofs.«01_k».proof.Proof.Match
public import Idealize.ShloMosaic.Lib.Pipeline.ReadBack
public import Idealize.ShloMosaic.Lib.WholeRead
public import Idealize.ShloMosaic.Lib.Pipeline.ValueKit

@[expose] public section

set_option maxRecDepth 16384

noncomputable section

/-- A run over a part of the times, from the state there, is the whole run's next part. -/
theorem Wkv.states_sub {ι ι' κ ν : Type*} [Fintype κ] [DecidableEq κ] (pos : ℕ → ι) (pos' : ℕ → ι') (e : ι' → ι) (lw k a b : ι → κ → ℝ) (v : ι → ν → ℝ) (s0 : κ → ν → ℝ) (n0 : ℕ) :
    ∀ n, (∀ m < n, e (pos' m) = pos (n0 + m)) →
      Wkv.states pos' (lw ∘ e) (k ∘ e) (a ∘ e) (b ∘ e) (v ∘ e) (Wkv.states pos lw k a b v s0 n0) n = Wkv.states pos lw k a b v s0 (n0 + n)
  | 0, _ => rfl
  | n + 1, h => by
    rw [← Nat.add_assoc]
    simp only [Wkv.states, Function.comp_apply, h n (Nat.lt_succ_self n)]
    rw [← Wkv.states_sub pos pos' e lw k a b v s0 n0 n fun m hm => h m (Nat.lt_succ_of_lt hm)]

namespace Cert.KernelIdeal.Stages

open Cert.KernelIdeal Cert.KernelIdeal.Gen Idealize.ShloMosaic Idealize.ShloMosaic.TcCoe Idealize.ShloMosaic.Tactic

/-- One pair of heads over all 8192 times. -/
structure Seq where
  lw : Fin 8192 → Fin 128 → ℝ
  r : Fin 8192 → Fin 128 → ℝ
  v : Fin 8192 → Fin 128 → ℝ
  n : Fin 8192 → Fin 128 → ℝ
  k : Fin 8192 → Fin 128 → ℝ
  b : Fin 8192 → Fin 128 → ℝ

variable (rev : Bool)

/-- The time of step `n`, the step of a time, and the time of row `t` of block `j`. -/
def timeG (n : ℕ) : Fin 8192 := ⟨(bif rev then 8191 - n else n) % 8192, by omega⟩
def stepG (τ : Fin 8192) : ℕ := bif rev then 8191 - τ.val else τ.val
def rowG (j : ℕ) (t : Fin 256) : Fin 8192 := ⟨((bif rev then 31 - j else j) * 256 + t.val) % 8192, by omega⟩

def Seq.blk (G : Seq) (j : ℕ) : RBlk where
  lw := Matrix.of fun t c => G.lw (rowG rev j t) c
  r := Matrix.of fun t c => G.r (rowG rev j t) c
  v := Matrix.of fun t c => G.v (rowG rev j t) c
  n := Matrix.of fun t c => G.n (rowG rev j t) c
  k := Matrix.of fun t c => G.k (rowG rev j t) c
  b := Matrix.of fun t c => G.b (rowG rev j t) c

/-- The state of head `hh` after `n` steps from zero. -/
def stG (G : Seq) (hh : Fin 2) (n : ℕ) : Matrix (Fin 64) (Fin 64) ℝ :=
  Matrix.of (Wkv.states (timeG rev) (fun τ i => G.lw τ (colH hh i)) (fun τ i => G.k τ (colH hh i)) (fun τ i => -G.n τ (colH hh i))
    (fun τ i => G.b τ (colH hh i)) (fun τ i => G.v τ (colH hh i)) 0 n)

def hOf (c : Fin 128) : Fin 2 := ⟨c.val / 64, by omega⟩
def lOf (c : Fin 128) : Fin 64 := ⟨c.val % 64, by omega⟩
theorem hOf_colH (hh : Fin 2) (l : Fin 64) : hOf (colH hh l) = hh := Fin.ext (by simp only [hOf, colH]; omega)
theorem lOf_colH (hh : Fin 2) (l : Fin 64) : lOf (colH hh l) = l := Fin.ext (by simp only [lOf, colH]; omega)

/-- The output at a time, in one column of the pair. -/
def outG (G : Seq) (τ : Fin 8192) (c : Fin 128) : ℝ := ∑ i, G.r τ (colH (hOf c) i) * stG rev G (hOf c) (stepG rev τ + 1) i (lOf c)

theorem rowG_at64 (j : ℕ) (hj : j < 32) (n : Fin 4) (m : ℕ) (hm : m < 64) :
    rowG rev j (at64 (order rev n) (posc rev m)) = timeG rev (256 * j + 64 * n.val + m) := by
  apply Fin.ext
  cases rev <;> simp only [rowG, at64, order, posc, timeG, cond_true, cond_false, Fin.val_rev] <;> omega
theorem stepG_rowG (j : ℕ) (hj : j < 32) (n : Fin 4) (t : Fin 64) :
    stepG rev (rowG rev j (at64 (order rev n) t)) = 256 * j + 64 * n.val + ρc rev t := by
  cases rev <;> simp only [rowG, at64, order, ρc, stepG, cond_true, cond_false, Fin.val_rev] <;> omega

theorem runC_eq (G : Seq) (hh : Fin 2) (j : ℕ) (hj : j < 32) (n : Fin 4) (m : ℕ) (hm : m ≤ 64) :
    runC rev hh (order rev n) (G.blk rev j) (stG rev G hh (256 * j + 64 * n.val)) m = stG rev G hh (256 * j + 64 * n.val + m) :=
  Wkv.states_sub (timeG rev) (posc rev) (fun t => rowG rev j (at64 (order rev n) t)) (fun τ i => G.lw τ (colH hh i)) (fun τ i => G.k τ (colH hh i))
    (fun τ i => -G.n τ (colH hh i)) (fun τ i => G.b τ (colH hh i)) (fun τ i => G.v τ (colH hh i)) 0 _ m
    fun m' hm' => rowG_at64 rev j hj n m' (by omega)

section
variable {rev} {x : Blk Ideal} {G : Seq} {j : ℕ} (hj : j < 32) (hx : IsBlk x (G.blk rev j)) (hh : Fin 2)
include hj hx

theorem st_is {s : FVec Ideal S64x64 .f32} (hs : Is s (stG rev G hh (256 * j))) : ∀ n ≤ 4, Is (st rev x hh s n) (stG rev G hh (256 * j + 64 * n))
  | 0, _ => hs
  | n + 1, hn => by
    have ih := st_is hs n (by omega)
    have e : (Fin.ofNat 4 n).val = n := Nat.mod_eq_of_lt hn
    have h := (chunk_step rev hx hh (order rev (Fin.ofNat 4 n)) ih).2
    have r := runC_eq rev G hh j hj (Fin.ofNat 4 n) 64 le_rfl
    rw [e] at r
    rw [r] at h
    exact h

theorem out_is {s : FVec Ideal S64x64 .f32} (hs : Is s (stG rev G hh (256 * j))) (n : Fin 4) (t l : Fin 64) :
    out rev x hh s n (ix4 0 0 t l) = ((outG rev G (rowG rev j (at64 (order rev n) t)) (colH hh l) : ℝ) : EReal) := by
  have h := (chunk_step rev hx hh (order rev n) (st_is hj hx hh hs n.val (by omega))).1 t l
  refine Eq.trans ?_ (h.trans ?_)
  · pointwise [out]
  · simp only [Matrix.of_apply, outG, hOf_colH, lOf_colH, stepG_rowG rev j hj]
    rw [runC_eq rev G hh j hj n (ρc rev t + 1) ((posc_ρc rev t).1)]
    rfl

theorem end_is {s : Vec Ideal S1x1x64x64 .f32} (hs : ∀ i l, s (ix4 0 0 i l) = ((stG rev G hh (256 * j) i l : ℝ) : EReal)) (i l : Fin 64) :
    end' rev x hh s (ix4 0 0 i l) = ((stG rev G hh (256 * (j + 1)) i l : ℝ) : EReal) := by
  have h0 : Is (shapeCast S64x64 s shapeCasts_S1x1x64x64_S64x64 : FVec Ideal S64x64 .f32) (stG rev G hh (256 * j)) := by
    intro i l
    rw [← hs i l]; pointwise
  refine Eq.trans ?_ (st_is hj hx hh h0 4 le_rfl i l)
  pointwise [end']

end

variable {rev} {j : ℕ}

/-! ## What is stored -/

/-- A block's outputs, for a sequence per pair. -/
def outB (rev : Bool) (G : Fin 4 → Seq) (j : ℕ) (y : S1x4x256x128.Idx) : Elt Ideal .f32 := ((outG rev (G (y 1)) (rowG rev j (y 2)) (y 3) : ℝ) : EReal)

/-- The direction of a half of the scratch, the pair and the place in it of a head. -/
def dirOf (d : Fin 2) : Bool := decide (d.val = 1)
def pOf (e : Fin 8) : Fin 4 := ⟨e.val / 2, by omega⟩
def hhOf (e : Fin 8) : Fin 2 := ⟨e.val % 2, by omega⟩
theorem pOf_head (p : Fin 4) (hh : Fin 2) : pOf (head p hh) = p := Fin.ext (by simp only [pOf, head]; omega)
theorem hhOf_head (p : Fin 4) (hh : Fin 2) : hhOf (head p hh) = hh := Fin.ext (by simp only [hhOf, head]; omega)
/-- Every state after `n` steps. -/
def stB (G : Bool → Fin 4 → Seq) (n : ℕ) (y : S2x8x64x64.Idx) : Elt Ideal .f32 :=
  ((stG (dirOf (y 0)) (G (dirOf (y 0)) (pOf (y 1))) (hhOf (y 1)) n (y 2) (y 3) : ℝ) : EReal)

theorem emb_unit {s : Shape} {off size : Fin s.rank → ℕ} (inb : ∀ a, off a + size a ≤ s.size a) (x : (Rect.unit off size inb).shape.Idx) (a : Fin s.rank) :
    ((Rect.unit off size inb).emb x a).val = off a + 1 * (x a).val := rfl
theorem rOut_emb (p ck : Fin 4) (hh : Fin 2) (t l : Fin 64) : (rOut p ck hh).emb (ix4 0 0 t l) = ix4 0 p (at64 ck t) (colH hh l) := by
  refine funext fun a => Fin.ext ((emb_unit _ _ a).trans ?_)
  fin_cases a <;> simp [at64, colH]
theorem rState_emb (d : Fin 2) (e : Fin 8) (i l : Fin 64) : (rState d e).emb (ix4 0 0 i l) = ix4 d e i l := by
  refine funext fun a => Fin.ext ((emb_unit _ _ a).trans ?_)
  fin_cases a <;> simp
theorem rPair_emb (p : Fin 4) (t : Fin 256) (c : Fin 128) : (rPair p).emb (ix4 0 0 t c) = ix4 0 p t c := by
  refine funext fun a => Fin.ext ((emb_unit _ _ a).trans ?_)
  fin_cases a <;> simp
theorem idx_pair (z : S1x1x64x64.Idx) : ∃ t l : Fin 64, z = ix4 0 0 t l := by
  refine ⟨z 2, z 3, ?_⟩
  funext a; apply Fin.ext; fin_cases a
  · exact Nat.lt_one_iff.mp (z 0).isLt
  · exact Nat.lt_one_iff.mp (z 1).isLt
  · rfl
  · rfl

theorem pieceO_is {x : Fin 4 → Blk Ideal} {s : Fin 8 → Vec Ideal S1x1x64x64 .f32} {G : Fin 4 → Seq} (hj : j < 32)
    (hx : ∀ p, IsBlk (x p) ((G p).blk rev j)) (hs : ∀ p hh i l, s (head p hh) (ix4 0 0 i l) = ((stG rev (G p) hh (256 * j) i l : ℝ) : EReal))
    (n p : Fin 4) (hh : Fin 2) (z : (pieceO rev x s n p hh).1.shape.Idx) :
    (pieceO rev x s n p hh).2 z = outB rev G j ((pieceO rev x s n p hh).1.emb z) := by
  have h0 : Is (unflat (s (head p hh))) (stG rev (G p) hh (256 * j)) := by
    intro i l
    rw [← hs p hh i l]; pointwise [unflat]
  have key : ∀ z : S1x1x64x64.Idx, (pieceO rev x s n p hh).2 z = outB rev G j ((rOut p (order rev n) hh).emb z) := by
    intro z
    obtain ⟨t, l, rfl⟩ := idx_pair z
    rw [rOut_emb p (order rev n) hh]
    exact out_is hj (hx p) hh h0 n t l
  exact key z

theorem piecesO_is {x : Fin 4 → Blk Ideal} {s : Fin 8 → Vec Ideal S1x1x64x64 .f32} {G : Fin 4 → Seq} (hj : j < 32)
    (hx : ∀ p, IsBlk (x p) ((G p).blk rev j)) (hs : ∀ p hh i l, s (head p hh) (ix4 0 0 i l) = ((stG rev (G p) hh (256 * j) i l : ℝ) : EReal)) :
    View.PiecesOf (outB rev G j) (piecesO rev x s) := by
  have row : ∀ n l, View.PiecesOf (outB rev G j) l → View.PiecesOf (outB rev G j) (rowO rev x s n l) := fun n l h =>
    ⟨pieceO_is hj hx hs n 3 1, pieceO_is hj hx hs n 3 0, pieceO_is hj hx hs n 2 1, pieceO_is hj hx hs n 2 0,
      pieceO_is hj hx hs n 1 1, pieceO_is hj hx hs n 1 0, pieceO_is hj hx hs n 0 1, pieceO_is hj hx hs n 0 0, h⟩
  exact row 3 _ (row 2 _ (row 1 _ (row 0 _ trivial)))

theorem pieceS_is {x : Fin 4 → Blk Ideal} {s : Fin 8 → Vec Ideal S1x1x64x64 .f32} {G : Bool → Fin 4 → Seq} (hj : j < 32) (d : Fin 2) (hd : dirOf d = rev)
    (hx : ∀ p, IsBlk (x p) ((G rev p).blk rev j)) (hs : ∀ p hh i l, s (head p hh) (ix4 0 0 i l) = ((stG rev (G rev p) hh (256 * j) i l : ℝ) : EReal))
    (p : Fin 4) (hh : Fin 2) (z : (pieceS d rev x s p hh).1.shape.Idx) :
    (pieceS d rev x s p hh).2 z = stB G (256 * (j + 1)) ((pieceS d rev x s p hh).1.emb z) := by
  have key : ∀ z : S1x1x64x64.Idx, (pieceS d rev x s p hh).2 z = stB G (256 * (j + 1)) ((rState d (head p hh)).emb z) := by
    intro z
    obtain ⟨i, l, rfl⟩ := idx_pair z
    rw [rState_emb]
    refine (end_is hj (hx p) hh (hs p hh) i l).trans ?_
    show _ = ((stG (dirOf d) (G (dirOf d) (pOf (head p hh))) (hhOf (head p hh)) (256 * (j + 1)) i l : ℝ) : EReal)
    rw [hd, pOf_head, hhOf_head]
  exact key z

theorem piecesS_is {xf xb : Fin 4 → Blk Ideal} {sf sb : Fin 8 → Vec Ideal S1x1x64x64 .f32} {G : Bool → Fin 4 → Seq} (hj : j < 32)
    (hf : ∀ p, IsBlk (xf p) ((G false p).blk false j)) (hb : ∀ p, IsBlk (xb p) ((G true p).blk true j))
    (hsf : ∀ p hh i l, sf (head p hh) (ix4 0 0 i l) = ((stG false (G false p) hh (256 * j) i l : ℝ) : EReal))
    (hsb : ∀ p hh i l, sb (head p hh) (ix4 0 0 i l) = ((stG true (G true p) hh (256 * j) i l : ℝ) : EReal)) :
    View.PiecesOf (stB G (256 * (j + 1))) (piecesS xf xb sf sb []) := by
  have row : ∀ p l, View.PiecesOf (stB G (256 * (j + 1))) l → View.PiecesOf (stB G (256 * (j + 1))) (rowS xf xb sf sb p l) := fun p l h =>
    ⟨pieceS_is hj 1 rfl hb hsb p 1, pieceS_is hj 1 rfl hb hsb p 0, pieceS_is hj 0 rfl hf hsf p 1, pieceS_is hj 0 rfl hf hsf p 0, h⟩
  exact row 3 _ (row 2 _ (row 1 _ (row 0 _ trivial)))

theorem piecesO_cover (x : Fin 4 → Blk Ideal) (s : Fin 8 → Vec Ideal S1x1x64x64 .f32) (y : S1x4x256x128.Idx) : ∃ pc ∈ piecesO rev x s, y ∈ pc.1.set := by
  cases rev
  · exact View.cover_of_tiledL (piecesO false x s) S1x1x64x64.size (by sl_kernel_rfl) y
  · exact View.cover_of_tiledL (piecesO true x s) S1x1x64x64.size (by sl_kernel_rfl) y
theorem piecesS_cover (xf xb : Fin 4 → Blk Ideal) (sf sb : Fin 8 → Vec Ideal S1x1x64x64 .f32) (y : S2x8x64x64.Idx) :
    ∃ pc ∈ piecesS xf xb sf sb [], y ∈ pc.1.set := View.cover_of_tiledL (piecesS xf xb sf sb []) S1x1x64x64.size (by sl_kernel_rfl) y

/-! ## What is loaded -/

theorem load_is {e : EltTy} (a : Memref sig .tc .vmem S1x4x256x128 e) (ha : a.IsWhole) (x : Vec Ideal S1x4x256x128 e) (p : Fin 4) (t : Fin 256) (c : Fin 128) :
    load a ha x p (ix4 0 0 t c) = x (ix4 0 p t c) :=
  (Memref.IsWhole.readAt_unread ha x (rPair p).toLoadRect (ix4 0 0 t c)).trans (congrArg x (rPair_emb p t c))
theorem loadS_is (a : Memref sig .tc .vmem S2x8x64x64 .f32) (ha : a.IsWhole) (x : Vec Ideal S2x8x64x64 .f32) (d : Fin 2) (e : Fin 8) (i l : Fin 64) :
    loadS a ha x d e (ix4 0 0 i l) = x (ix4 d e i l) :=
  (Memref.IsWhole.readAt_unread ha x (rState d e).toLoadRect (ix4 0 0 i l)).trans (congrArg x (rState_emb d e i l))
theorem load0_is (a : Memref sig .tc .vmem S2x8x64x64 .f32) (d : Fin 2) (e : Fin 8) (i l : Fin 64) :
    load0 (F := Ideal) a d e (ix4 0 0 i l) = ((0 : ℝ) : EReal) := by
  unfold load0
  rw [View.readCov_fill _ _ _ _ (rState d e) (by decide)]
  show k0_pay1 (F := Ideal) ((rState d e).emb (ix4 0 0 i l)) = _
  rw [rState_emb]
  pointwise [k0_pay1]; rfl

end Cert.KernelIdeal.Stages

end
-- ==== Proof.Grid.lean ====
/- The launch: after each grid point the scratch holds the recurrence's states, and the two output arrays end holding its outputs. -/
module

public import proofs.«01_k».proof.Proof.Block
public import proofs.«01_k».proof.Proof.Gen.KernelIdeal.Value

@[expose] public section

set_option maxRecDepth 16384

noncomputable section

namespace Cert.KernelIdeal.Stages

open Cert.KernelIdeal Cert.KernelIdeal.Gen Idealize.ShloMosaic Idealize.ShloMosaic.TcCoe Idealize.ShloMosaic.Tactic Idealize.SL.Sem
open Idealize.ShloMosaic.Pipeline (Dat)

/-- The arguments as real numbers. -/
structure RArgs where
  r : Fin 8 → Fin 4 → Fin 8192 → Fin 128 → ℝ
  v : Fin 8 → Fin 4 → Fin 8192 → Fin 128 → ℝ
  n : Fin 8 → Fin 4 → Fin 8192 → Fin 128 → ℝ
  k : Bool → Fin 8 → Fin 4 → Fin 8192 → Fin 128 → ℝ
  b : Bool → Fin 8 → Fin 4 → Fin 8192 → Fin 128 → ℝ
  lw : Bool → Fin 8 → Fin 4 → Fin 8192 → Fin 128 → ℝ

/-- One sequence's pair of heads in one direction. -/
def RArgs.seq (R : RArgs) (b : Fin 8) (rev : Bool) (p : Fin 4) : Seq :=
  ⟨R.lw rev b p, R.r b p, R.v b p, R.n b p, R.k rev b p, R.b rev b p⟩

variable (m : (ℓ : Loc nD τ sig) → Buf (Elt Ideal) ℓ) (c : Dev nD)

structure IsArgs (R : RArgs) : Prop where
  r : ∀ b p s l, m ((c : Thread nD τ).loc main_arg0) (ix4 b p s l : S8x4x8192x128.Idx) = ((R.r b p s l : ℝ) : EReal)
  v : ∀ b p s l, m ((c : Thread nD τ).loc main_arg1) (ix4 b p s l : S8x4x8192x128.Idx) = ((R.v b p s l : ℝ) : EReal)
  n : ∀ b p s l, m ((c : Thread nD τ).loc main_arg2) (ix4 b p s l : S8x4x8192x128.Idx) = ((R.n b p s l : ℝ) : EReal)
  kf : ∀ b p s l, m ((c : Thread nD τ).loc main_arg3) (ix4 b p s l : S8x4x8192x128.Idx) = ((R.k false b p s l : ℝ) : EReal)
  bf : ∀ b p s l, m ((c : Thread nD τ).loc main_arg4) (ix4 b p s l : S8x4x8192x128.Idx) = ((R.b false b p s l : ℝ) : EReal)
  lf : ∀ b p s l, m ((c : Thread nD τ).loc main_arg5) (ix4 b p s l : S8x4x8192x128.Idx) = ((R.lw false b p s l : ℝ) : EReal)
  kb : ∀ b p s l, m ((c : Thread nD τ).loc main_arg6) (ix4 b p s l : S8x4x8192x128.Idx) = ((R.k true b p s l : ℝ) : EReal)
  bb : ∀ b p s l, m ((c : Thread nD τ).loc main_arg7) (ix4 b p s l : S8x4x8192x128.Idx) = ((R.b true b p s l : ℝ) : EReal)
  lb : ∀ b p s l, m ((c : Thread nD τ).loc main_arg8) (ix4 b p s l : S8x4x8192x128.Idx) = ((R.lw true b p s l : ℝ) : EReal)

theorem idx_f : ∀ t : Fin grid0.N, win0_0.index t = ![t.val / 32, 0, t.val % 32, 0] ∧ win0_1.index t = ![t.val / 32, 0, t.val % 32, 0]
    ∧ win0_2.index t = ![t.val / 32, 0, t.val % 32, 0] ∧ win0_3.index t = ![t.val / 32, 0, t.val % 32, 0]
    ∧ win0_4.index t = ![t.val / 32, 0, t.val % 32, 0] ∧ win0_5.index t = ![t.val / 32, 0, t.val % 32, 0]
    ∧ win0_12.index t = ![t.val / 32, 0, t.val % 32, 0] := by decide +kernel
theorem idx_b : ∀ t : Fin grid0.N, win0_6.index t = ![t.val / 32, 0, 31 - t.val % 32, 0] ∧ win0_7.index t = ![t.val / 32, 0, 31 - t.val % 32, 0]
    ∧ win0_8.index t = ![t.val / 32, 0, 31 - t.val % 32, 0] ∧ win0_9.index t = ![t.val / 32, 0, 31 - t.val % 32, 0]
    ∧ win0_10.index t = ![t.val / 32, 0, 31 - t.val % 32, 0] ∧ win0_11.index t = ![t.val / 32, 0, 31 - t.val % 32, 0]
    ∧ win0_13.index t = ![t.val / 32, 0, 31 - t.val % 32, 0] := by decide +kernel

theorem lt_N (t : Fin cfg0.N) : t.val < 256 := Nat.lt_of_lt_of_eq t.isLt N_0
/-- The sequence of a grid point. -/
def seqOf (t : Fin cfg0.N) : Fin 8 := ⟨t.val / 32, by have h := lt_N t; omega⟩

/-- Where an element of the block at point `t` lies in its array, in either direction. -/
theorem place (t : Fin cfg0.N) (p : Fin 4) (s : Fin 256) (l : Fin 128) (rev : Bool) (a : Fin 4) :
    ![t.val / 32, 0, bif rev then 31 - t.val % 32 else t.val % 32, 0] a * S1x4x256x128.size a + ((ix4 0 p s l : S1x4x256x128.Idx) a).val
      = ((ix4 (seqOf t) p (rowG rev (t.val % 32) s) l : S8x4x8192x128.Idx) a).val := by
  have h := lt_N t
  cases rev <;> fin_cases a <;> simp [seqOf, rowG] <;> omega

variable (t : Fin cfg0.N) (p : Fin 4) (s : Fin 256) (l : Fin 128)

theorem blk0 : iblk m c 0 t (ix4 0 p s l : S1x4x256x128.Idx) = m ((c : Thread nD τ).loc main_arg0) (ix4 (seqOf t) p (rowG false (t.val % 32) s) l : S8x4x8192x128.Idx) := by
  refine congrArg (m ((c : Thread nD τ).loc main_arg0)) (funext fun a => Fin.ext ?_)
  refine (Pipeline.Window.rect_emb_val win0_0 t (ix4 0 p s l) a rfl).trans ?_
  rw [(idx_f t).1]
  exact place t p s l false a
theorem blk1 : iblk m c 1 t (ix4 0 p s l : S1x4x256x128.Idx) = m ((c : Thread nD τ).loc main_arg1) (ix4 (seqOf t) p (rowG false (t.val % 32) s) l : S8x4x8192x128.Idx) := by
  refine congrArg (m ((c : Thread nD τ).loc main_arg1)) (funext fun a => Fin.ext ?_)
  refine (Pipeline.Window.rect_emb_val win0_1 t (ix4 0 p s l) a rfl).trans ?_
  rw [(idx_f t).2.1]
  exact place t p s l false a
theorem blk2 : iblk m c 2 t (ix4 0 p s l : S1x4x256x128.Idx) = m ((c : Thread nD τ).loc main_arg2) (ix4 (seqOf t) p (rowG false (t.val % 32) s) l : S8x4x8192x128.Idx) := by
  refine congrArg (m ((c : Thread nD τ).loc main_arg2)) (funext fun a => Fin.ext ?_)
  refine (Pipeline.Window.rect_emb_val win0_2 t (ix4 0 p s l) a rfl).trans ?_
  rw [(idx_f t).2.2.1]
  exact place t p s l false a
theorem blk3 : iblk m c 3 t (ix4 0 p s l : S1x4x256x128.Idx) = m ((c : Thread nD τ).loc main_arg3) (ix4 (seqOf t) p (rowG false (t.val % 32) s) l : S8x4x8192x128.Idx) := by
  refine congrArg (m ((c : Thread nD τ).loc main_arg3)) (funext fun a => Fin.ext ?_)
  refine (Pipeline.Window.rect_emb_val win0_3 t (ix4 0 p s l) a rfl).trans ?_
  rw [(idx_f t).2.2.2.1]
  exact place t p s l false a
theorem blk4 : iblk m c 4 t (ix4 0 p s l : S1x4x256x128.Idx) = m ((c : Thread nD τ).loc main_arg4) (ix4 (seqOf t) p (rowG false (t.val % 32) s) l : S8x4x8192x128.Idx) := by
  refine congrArg (m ((c : Thread nD τ).loc main_arg4)) (funext fun a => Fin.ext ?_)
  refine (Pipeline.Window.rect_emb_val win0_4 t (ix4 0 p s l) a rfl).trans ?_
  rw [(idx_f t).2.2.2.2.1]
  exact place t p s l false a
theorem blk5 : iblk m c 5 t (ix4 0 p s l : S1x4x256x128.Idx) = m ((c : Thread nD τ).loc main_arg5) (ix4 (seqOf t) p (rowG false (t.val % 32) s) l : S8x4x8192x128.Idx) := by
  refine congrArg (m ((c : Thread nD τ).loc main_arg5)) (funext fun a => Fin.ext ?_)
  refine (Pipeline.Window.rect_emb_val win0_5 t (ix4 0 p s l) a rfl).trans ?_
  rw [(idx_f t).2.2.2.2.2.1]
  exact place t p s l false a
theorem blk6 : iblk m c 6 t (ix4 0 p s l : S1x4x256x128.Idx) = m ((c : Thread nD τ).loc main_arg0) (ix4 (seqOf t) p (rowG true (t.val % 32) s) l : S8x4x8192x128.Idx) := by
  refine congrArg (m ((c : Thread nD τ).loc main_arg0)) (funext fun a => Fin.ext ?_)
  refine (Pipeline.Window.rect_emb_val win0_6 t (ix4 0 p s l) a rfl).trans ?_
  rw [(idx_b t).1]
  exact place t p s l true a
theorem blk7 : iblk m c 7 t (ix4 0 p s l : S1x4x256x128.Idx) = m ((c : Thread nD τ).loc main_arg1) (ix4 (seqOf t) p (rowG true (t.val % 32) s) l : S8x4x8192x128.Idx) := by
  refine congrArg (m ((c : Thread nD τ).loc main_arg1)) (funext fun a => Fin.ext ?_)
  refine (Pipeline.Window.rect_emb_val win0_7 t (ix4 0 p s l) a rfl).trans ?_
  rw [(idx_b t).2.1]
  exact place t p s l true a
theorem blk8 : iblk m c 8 t (ix4 0 p s l : S1x4x256x128.Idx) = m ((c : Thread nD τ).loc main_arg2) (ix4 (seqOf t) p (rowG true (t.val % 32) s) l : S8x4x8192x128.Idx) := by
  refine congrArg (m ((c : Thread nD τ).loc main_arg2)) (funext fun a => Fin.ext ?_)
  refine (Pipeline.Window.rect_emb_val win0_8 t (ix4 0 p s l) a rfl).trans ?_
  rw [(idx_b t).2.2.1]
  exact place t p s l true a
theorem blk9 : iblk m c 9 t (ix4 0 p s l : S1x4x256x128.Idx) = m ((c : Thread nD τ).loc main_arg6) (ix4 (seqOf t) p (rowG true (t.val % 32) s) l : S8x4x8192x128.Idx) := by
  refine congrArg (m ((c : Thread nD τ).loc main_arg6)) (funext fun a => Fin.ext ?_)
  refine (Pipeline.Window.rect_emb_val win0_9 t (ix4 0 p s l) a rfl).trans ?_
  rw [(idx_b t).2.2.2.1]
  exact place t p s l true a
theorem blk10 : iblk m c 10 t (ix4 0 p s l : S1x4x256x128.Idx) = m ((c : Thread nD τ).loc main_arg7) (ix4 (seqOf t) p (rowG true (t.val % 32) s) l : S8x4x8192x128.Idx) := by
  refine congrArg (m ((c : Thread nD τ).loc main_arg7)) (funext fun a => Fin.ext ?_)
  refine (Pipeline.Window.rect_emb_val win0_10 t (ix4 0 p s l) a rfl).trans ?_
  rw [(idx_b t).2.2.2.2.1]
  exact place t p s l true a
theorem blk11 : iblk m c 11 t (ix4 0 p s l : S1x4x256x128.Idx) = m ((c : Thread nD τ).loc main_arg8) (ix4 (seqOf t) p (rowG true (t.val % 32) s) l : S8x4x8192x128.Idx) := by
  refine congrArg (m ((c : Thread nD τ).loc main_arg8)) (funext fun a => Fin.ext ?_)
  refine (Pipeline.Window.rect_emb_val win0_11 t (ix4 0 p s l) a rfl).trans ?_
  rw [(idx_b t).2.2.2.2.2.1]
  exact place t p s l true a

theorem flat_is {φ : FTy} (z : FVec Ideal S1x1x256x128 φ) (f : Matrix (Fin 256) (Fin 128) ℝ) (h : ∀ s l, z (ix4 0 0 s l) = ((f s l : ℝ) : EReal)) :
    Is (flat z) f := by
  intro s l
  rw [← h s l]
  pointwise [flat]

variable {m c} {R : RArgs} (hR : IsArgs m c R)
include hR

/-- The blocks loaded at a point, forwards and backwards. -/
theorem blk_f : IsBlk (blocks (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (iblk m c 5 t) p) ((R.seq (seqOf t) false p).blk false (t.val % 32)) where
  lw := flat_is _ _ fun s l => (load_is _ _ _ _ _ _).trans <| (blk5 m c t p s l).trans (hR.lf _ _ _ _)
  r := flat_is _ _ fun s l => (load_is _ _ _ _ _ _).trans <| (blk0 m c t p s l).trans (hR.r _ _ _ _)
  v := flat_is _ _ fun s l => (load_is _ _ _ _ _ _).trans <| (blk1 m c t p s l).trans (hR.v _ _ _ _)
  n := flat_is _ _ fun s l => (load_is _ _ _ _ _ _).trans <| (blk2 m c t p s l).trans (hR.n _ _ _ _)
  k := flat_is _ _ fun s l => (load_is _ _ _ _ _ _).trans <| (blk3 m c t p s l).trans (hR.kf _ _ _ _)
  b := flat_is _ _ fun s l => (load_is _ _ _ _ _ _).trans <| (blk4 m c t p s l).trans (hR.bf _ _ _ _)
theorem blk_b : IsBlk (blocks (ms0_6 t) (hs0_6 t) (ms0_7 t) (hs0_7 t) (ms0_8 t) (hs0_8 t) (ms0_9 t) (hs0_9 t) (ms0_10 t) (hs0_10 t) (ms0_11 t) (hs0_11 t) (iblk m c 6 t) (iblk m c 7 t) (iblk m c 8 t) (iblk m c 9 t) (iblk m c 10 t) (iblk m c 11 t) p) ((R.seq (seqOf t) true p).blk true (t.val % 32)) where
  lw := flat_is _ _ fun s l => (load_is _ _ _ _ _ _).trans <| (blk11 m c t p s l).trans (hR.lb _ _ _ _)
  r := flat_is _ _ fun s l => (load_is _ _ _ _ _ _).trans <| (blk6 m c t p s l).trans (hR.r _ _ _ _)
  v := flat_is _ _ fun s l => (load_is _ _ _ _ _ _).trans <| (blk7 m c t p s l).trans (hR.v _ _ _ _)
  n := flat_is _ _ fun s l => (load_is _ _ _ _ _ _).trans <| (blk8 m c t p s l).trans (hR.n _ _ _ _)
  k := flat_is _ _ fun s l => (load_is _ _ _ _ _ _).trans <| (blk9 m c t p s l).trans (hR.kb _ _ _ _)
  b := flat_is _ _ fun s l => (load_is _ _ _ _ _ _).trans <| (blk10 m c t p s l).trans (hR.bb _ _ _ _)

/-- What the outputs' buffers and the scratch hold after a point. -/
def After (R : RArgs) (t : Fin cfg0.N) (o : Vec Ideal S1x4x256x128 .f32 × Vec Ideal S1x4x256x128 .f32 × Vec Ideal S2x8x64x64 .f32) : Prop :=
  o.1 = outB false (R.seq (seqOf t) false) (t.val % 32) ∧ o.2.1 = outB true (R.seq (seqOf t) true) (t.val % 32)
    ∧ o.2.2 = stB (R.seq (seqOf t)) (256 * (t.val % 32 + 1))

theorem after_A (h0 : t.val % 32 = 0) : After R t (outsAt0 m c t.val t.isLt) := by
  have hj : t.val % 32 < 32 := Nat.mod_lt _ (by decide)
  have hz : ∀ (rev : Bool) (d : Fin 2) (p : Fin 4) (hh : Fin 2) (i l : Fin 64), load0 (F := Ideal) scM0_0 d (head p hh) (ix4 0 0 i l)
      = ((stG rev (R.seq (seqOf t) rev p) hh (256 * (t.val % 32)) i l : ℝ) : EReal) := by
    intro rev d p hh i l
    rw [load0_is, h0]; rfl
  obtain ⟨e1, e2, e3⟩ := pieces_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)
  rw [outsAt0_A m c t h0]
  refine ⟨?_, ?_, ?_⟩
  · dsimp only
    unfold out0_A_12
    rw [View.read_writes_junk_eq_canon, e1]
    funext y
    rw [← List.append_nil (piecesO _ _ _)]
    exact View.canon_append_of_piecesOf _ [] _ (piecesO_is hj (fun p => blk_f t p hR) (hz false 0)) y (piecesO_cover _ _ y)
  · dsimp only
    unfold out0_A_13
    rw [View.read_writes_junk_eq_canon, e2]
    funext y
    rw [← List.append_nil (piecesO _ _ _)]
    exact View.canon_append_of_piecesOf _ [] _ (piecesO_is hj (fun p => blk_b t p hR) (hz true 1)) y (piecesO_cover _ _ y)
  · dsimp only
    unfold sout0_A_0
    rw [View.read_writes_junk_eq_canon, e3]
    funext y
    exact View.canon_append_of_piecesOf _ _ _ (piecesS_is hj (fun p => blk_f t p hR) (fun p => blk_b t p hR) (hz false 0) (hz true 1)) y (piecesS_cover _ _ _ _ y)

theorem after_B (h0 : ¬t.val % 32 = 0) (ih : After R ⟨t.val - 1, Nat.lt_of_le_of_lt (Nat.sub_le _ _) t.isLt⟩ (outsAt0 m c (t.val - 1) (Nat.lt_of_le_of_lt (Nat.sub_le _ _) t.isLt))) :
    After R t (outsAt0 m c t.val t.isLt) := by
  have hj : t.val % 32 < 32 := Nat.mod_lt _ (by decide)
  have hq : seqOf ⟨t.val - 1, Nat.lt_of_le_of_lt (Nat.sub_le _ _) t.isLt⟩ = seqOf t := Fin.ext (by simp only [seqOf]; omega)
  have hn : (t.val - 1) % 32 + 1 = t.val % 32 := by omega
  have hs := ih.2.2
  simp only [hq, hn] at hs
  have hz : ∀ (d : Fin 2) (p : Fin 4) (hh : Fin 2) (i l : Fin 64), loadS (F := Ideal) scM0_0 (Memref.isWhole_whole _) (outsAt0 m c (t.val - 1) (Nat.lt_of_le_of_lt (Nat.sub_le _ _) t.isLt)).2.2 d (head p hh) (ix4 0 0 i l)
      = ((stG (dirOf d) (R.seq (seqOf t) (dirOf d) p) hh (256 * (t.val % 32)) i l : ℝ) : EReal) := by
    intro d p hh i l
    rw [loadS_is, hs]
    show ((stG (dirOf d) (R.seq (seqOf t) (dirOf d) (pOf (head p hh))) (hhOf (head p hh)) (256 * (t.val % 32)) i l : ℝ) : EReal) = _
    rw [pOf_head, hhOf_head]
  obtain ⟨e1, e2, e3⟩ := pieces_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.2 (fun h => h0 ((hcond0_0 t).mp h))
  rw [outsAt0_B m c t h0]
  refine ⟨?_, ?_, ?_⟩
  · dsimp only
    unfold out0_B_12
    rw [View.read_writes_junk_eq_canon, e1]
    funext y
    rw [← List.append_nil (piecesO _ _ _)]
    exact View.canon_append_of_piecesOf _ [] _ (piecesO_is hj (fun p => blk_f t p hR) (hz 0)) y (piecesO_cover _ _ y)
  · dsimp only
    unfold out0_B_13
    rw [View.read_writes_junk_eq_canon, e2]
    funext y
    rw [← List.append_nil (piecesO _ _ _)]
    exact View.canon_append_of_piecesOf _ [] _ (piecesO_is hj (fun p => blk_b t p hR) (hz 1)) y (piecesO_cover _ _ y)
  · dsimp only
    unfold sout0_B_0
    rw [View.read_writes_junk_eq_canon, e3]
    funext y
    rw [← List.append_nil (piecesS _ _ _ _ [])]
    exact View.canon_append_of_piecesOf _ [] _ (piecesS_is hj (fun p => blk_f t p hR) (fun p => blk_b t p hR) (hz 0) (hz 1)) y (piecesS_cover _ _ _ _ y)

theorem after : ∀ (n : ℕ) (hn : n < cfg0.N), After R ⟨n, hn⟩ (outsAt0 m c n hn) := by
  intro n
  induction n with
  | zero => exact fun hn => after_A ⟨0, hn⟩ hR rfl
  | succ n ih =>
    intro hn
    by_cases h0 : (n + 1) % 32 = 0
    · exact after_A ⟨n + 1, hn⟩ hR h0
    · exact after_B ⟨n + 1, hn⟩ hR h0 (ih (Nat.lt_of_succ_lt hn))

omit hR in
/-- The output of one direction, as an array. -/
def outA (R : RArgs) (rev : Bool) (y : S8x4x8192x128.Idx) : Elt Ideal .f32 := ((outG rev (R.seq (y 0) rev (y 1)) (y 2) (y 3) : ℝ) : EReal)

omit hR in
theorem idx_block (y : S1x4x256x128.Idx) : ∃ (p : Fin 4) (s : Fin 256) (l : Fin 128), y = ix4 0 p s l := by
  refine ⟨y 1, y 2, y 3, ?_⟩
  funext a; apply Fin.ext; fin_cases a
  · exact Nat.lt_one_iff.mp (y 0).isLt
  · rfl
  · rfl
  · rfl

theorem final_f : (dats m 0 c).arrAt 12 cfg0.N = outA R false := by
  refine (dats m 0 c).arrAt_eq_of_covers 12 _ (by decide +kernel) fun t hf y => ?_
  blk_simp
  rw [after0_12, (after hR t.val t.isLt).1]
  obtain ⟨p, s, l, rfl⟩ := idx_block y
  have e : (win0_12.blk t).view.emb (ix4 0 p s l : S1x4x256x128.Idx) = (ix4 (seqOf t) p (rowG false (t.val % 32) s) l : S8x4x8192x128.Idx) := by
    refine funext fun a => Fin.ext ?_
    refine (Pipeline.Window.rect_emb_val win0_12 t (ix4 0 p s l) a rfl).trans ?_
    rw [(idx_f t).2.2.2.2.2.2]
    exact place t p s l false a
  exact (congrArg (outA R false) e).symm

theorem final_b : (dats m 0 c).arrAt 13 cfg0.N = outA R true := by
  refine (dats m 0 c).arrAt_eq_of_covers 13 _ (by decide +kernel) fun t hf y => ?_
  blk_simp
  rw [after0_13, (after hR t.val t.isLt).2.1]
  obtain ⟨p, s, l, rfl⟩ := idx_block y
  have e : (win0_13.blk t).view.emb (ix4 0 p s l : S1x4x256x128.Idx) = (ix4 (seqOf t) p (rowG true (t.val % 32) s) l : S8x4x8192x128.Idx) := by
    refine funext fun a => Fin.ext ?_
    refine (Pipeline.Window.rect_emb_val win0_13 t (ix4 0 p s l) a rfl).trans ?_
    rw [(idx_b t).2.2.2.2.2.2]
    exact place t p s l true a
  exact (congrArg (outA R true) e).symm

end Cert.KernelIdeal.Stages

end
-- ==== Proof.Ref.lean ====
/- The reference's loop: after `n` steps it holds the recurrence's states and the first `n` rows of its outputs. -/
module

public import proofs.«01_k».proof.Proof.Grid
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.ShloMosaic.Tactic Idealize.SL.Sem
open Cert.KernelIdeal.Stages (Seq RArgs timeG stepG stG outG hOf lOf pOf hhOf colH outA)

/-- An argument with its heads apart, time first. -/
def heads (x : FVec Ideal S8x4x8192x128 .f32) : FVec Ideal S8192x8x8x64 .f32 :=
  shapeCast S8192x8x8x64 (transpose S8192x8x4x2x64 [2, 0, 1, 3, 4] (shapeCast S8x4x8192x2x64 x shapeCasts_S8x4x8192x128_S8x4x8192x2x64)
    transposes_S8x4x8192x2x64_S8192x8x4x2x64_2_0_1_3_4) shapeCasts_S8192x8x4x2x64_S8192x8x8x64

/-- The two directions side by side, the second reversed. -/
def both (f b : FVec Ideal S8x4x8192x128 .f32) : FVec Ideal S8192x16x8x64 .f32 :=
  concatenate S8192x16x8x64 1 [⟨S8192x8x8x64, heads f⟩, ⟨S8192x8x8x64, Host.reverse [0] (heads b)⟩] concatenates_S8192x8x8x64_S8192x8x8x64_S8192x16x8x64_d1

theorem heads_at (x : FVec Ideal S8x4x8192x128 .f32) (t : Fin 8192) (b : Fin 8) (h : Fin 8) (j : Fin 64) :
    heads x (ix4 t b h j) = x (ix4 b (pOf h) t (colH (hhOf h) j)) := by
  pointwise [heads]
  refine congrArg (fun l => x (ix4 b (pOf h) t l)) (Fin.ext ?_)
  simp only [colH, hhOf]
  omega

/-- The sequence, the direction and the head of a row of the carried arrays. -/
def bQ (q : Fin 16) : Fin 8 := ⟨q.val % 8, by omega⟩
def revQ (q : Fin 16) : Bool := decide (8 ≤ q.val)

theorem both_at (f b : FVec Ideal S8x4x8192x128 .f32) (t : Fin 8192) (q : Fin 16) (h : Fin 8) (j : Fin 64) :
    both f b (ix4 t q h j) = (bif revQ q then b else f) (ix4 (bQ q) (pOf h) (timeG (revQ q) t.val) (colH (hhOf h) j)) := by
  pointwise [both]
  by_cases hq : q.val < 8
  · have e : revQ q = false := decide_eq_false (by omega)
    have e1 : (⟨q.val, hq⟩ : Fin 8) = bQ q := Fin.ext (by simp only [bQ]; omega)
    have e2 : timeG false t.val = t := Fin.ext (by simp only [timeG, cond_false]; omega)
    rw [dif_pos hq, e, cond_false, e2, heads_at]
    exact congrArg (fun z => f (ix4 z (pOf h) t (colH (hhOf h) j))) e1
  · have e : revQ q = true := decide_eq_true (by omega)
    have e1 : (⟨q.val - 8, by omega⟩ : Fin 8) = bQ q := Fin.ext (by simp only [bQ]; omega)
    have e2 : timeG true t.val = t.rev := Fin.ext (by simp only [timeG, cond_true, Fin.val_rev]; omega)
    rw [dif_neg hq, e, cond_true, e2, ← e1]
    exact heads_at b t.rev ⟨q.val - 8, by omega⟩ h j

/-- One time step's rows of a carried array. -/
def row (x : FVec Ideal S8192x16x8x64 .f32) (n : Fin 8192) : FVec Ideal S16x8x64 .f32 := fun y => x (ix4 n (y 0) (y 1) (y 2))

theorem toInt_row (n : Fin 8192) : (BitVec.ofNat 32 n.val).toInt = (n.val : ℤ) := by
  rw [BitVec.toInt_eq_toNat_of_lt] <;> rw [BitVec.toNat_ofNat] <;> omega

theorem start_row (ctr : IVec S_ 32) (n : Fin 8192) (hc : ctr = fun _ => BitVec.ofNat 32 n.val) (a : Fin 4) :
    (((![ctr, constantI S_ 32 0#32, constantI S_ 32 0#32, constantI S_ 32 0#32] : Fin 4 → (⟨S_, .i32⟩ : BufTy).Contents (Elt Ideal))) a (Shape.Idx.first h_S_)).toInt
      = ((![n.val, 0, 0, 0] : Fin 4 → ℕ) a : ℤ) := by
  subst hc
  fin_cases a
  · exact toInt_row n
  · rfl
  · rfl
  · rfl

theorem fits_row (n : Fin 8192) : S8192x16x8x64.Slices ![n.val, 0, 0, 0] S1x16x8x64 :=
  ⟨rfl, fun a => by fin_cases a <;> simp⟩

def sl (x : FVec Ideal S8192x16x8x64 .f32) (ctr : IVec S_ 32) : FVec Ideal S16x8x64 .f32 :=
    shapeCast S16x8x64 (Host.dynamicSlice S1x16x8x64 x (fun k => (((![ctr, constantI S_ 32 0#32, constantI S_ 32 0#32, constantI S_ 32 0#32] : Fin 4 → (⟨S_, .i32⟩ : BufTy).Contents (Elt Ideal))) k (Shape.Idx.first h_S_)).toInt) sliceFits_S8192x16x8x64_S1x16x8x64) shapeCasts_S1x16x8x64_S16x8x64

theorem slice_row (x : FVec Ideal S8192x16x8x64 .f32) (ctr : IVec S_ 32) (n : Fin 8192) (hc : ctr = fun _ => BitVec.ofNat 32 n.val) : sl x ctr = row x n := by
  unfold sl
  rw [WordCmp.dynamicSlice_eq_extract _ _ _ _ ![n.val, 0, 0, 0] (fits_row n) (start_row ctr n hc)]
  funext y
  pointwise [row]

/-- The step's new outputs put at their row. -/
def putRow (o : FVec Ideal S8192x16x8x64 .f32) (y : FVec Ideal S16x8x64 .f32) (n : Fin 8192) : FVec Ideal S8192x16x8x64 .f32 :=
  fun z => if (z 0).val = n.val then y (ix3 (z 1) (z 2) (z 3)) else o z

def upd (o : FVec Ideal S8192x16x8x64 .f32) (u : FVec Ideal S16x8x64 .f32) (ctr : IVec S_ 32) : FVec Ideal S8192x16x8x64 .f32 :=
    Host.dynamicUpdateSlice o (broadcastInDim S1x16x8x64 ![1, 2, 3] bcast_S16x8x64_S1x16x8x64_1_2_3 u) (fun k => (((![ctr, constantI S_ 32 0#32, constantI S_ 32 0#32, constantI S_ 32 0#32] : Fin 4 → (⟨S_, .i32⟩ : BufTy).Contents (Elt Ideal))) k (Shape.Idx.first h_S_)).toInt) updateFits_S8192x16x8x64_S1x16x8x64

theorem update_row (o : FVec Ideal S8192x16x8x64 .f32) (u : FVec Ideal S16x8x64 .f32) (ctr : IVec S_ 32) (n : Fin 8192) (hc : ctr = fun _ => BitVec.ofNat 32 n.val) :
    upd o u ctr = putRow o u n := by
  unfold upd
  rw [WordCmp.dynamicUpdateSlice_eq_update _ _ _ _ ![n.val, 0, 0, 0] (fits_row n) (start_row ctr n hc)]
  funext y
  pointwise [putRow]
  by_cases e : (y 0).val = n.val
  · rw [dif_pos ⟨e.ge, by omega⟩, if_pos e]
  · rw [dif_neg (by omega), if_neg e]

def stepS (S : FVec Ideal S16x8x64x64 .f32) (w k v a b : FVec Ideal S16x8x64 .f32) : FVec Ideal S16x8x64x64 .f32 :=
  addf (addf (mulf S (broadcastInDim S16x8x64x64 ![0, 1, 2, 3] bcast_S16x8x1x64_S16x8x64x64_0_1_2_3 (broadcastInDim S16x8x1x64 ![0, 1, 3] bcast_S16x8x64_S16x8x1x64_0_1_3 w)))
    (mulf (broadcastInDim S16x8x64x64 ![0, 1, 2, 3] bcast_S16x8x64x1_S16x8x64x64_0_1_2_3 (broadcastInDim S16x8x64x1 ![0, 1, 2] bcast_S16x8x64_S16x8x64x1_0_1_2 (Host.dotGeneral dot_S16x8x64x64_S16x8x64_S16x8x64_3_2_2_n_01_01 none S a)))
      (broadcastInDim S16x8x64x64 ![0, 1, 2, 3] bcast_S16x8x1x64_S16x8x64x64_0_1_2_3 (broadcastInDim S16x8x1x64 ![0, 1, 3] bcast_S16x8x64_S16x8x1x64_0_1_3 b))))
    (mulf (broadcastInDim S16x8x64x64 ![0, 1, 2, 3] bcast_S16x8x64x1_S16x8x64x64_0_1_2_3 (broadcastInDim S16x8x64x1 ![0, 1, 2] bcast_S16x8x64_S16x8x64x1_0_1_2 v))
      (broadcastInDim S16x8x64x64 ![0, 1, 2, 3] bcast_S16x8x1x64_S16x8x64x64_0_1_2_3 (broadcastInDim S16x8x1x64 ![0, 1, 3] bcast_S16x8x64_S16x8x1x64_0_1_3 k)))

theorem stepS_at (S : FVec Ideal S16x8x64x64 .f32) (w k v a b : FVec Ideal S16x8x64 .f32) (q : Fin 16) (h : Fin 8) (j i : Fin 64) :
    stepS S w k v a b (ix4 q h j i) = S (ix4 q h j i) * w (ix3 q h i) + (∑ l, S (ix4 q h j l) * a (ix3 q h l)) * b (ix3 q h i) + v (ix3 q h j) * k (ix3 q h i) := by
  pointwise [stepS]

theorem out_at (S : FVec Ideal S16x8x64x64 .f32) (r : FVec Ideal S16x8x64 .f32) (q : Fin 16) (h : Fin 8) (j : Fin 64) :
    Host.dotGeneral dot_S16x8x64x64_S16x8x64_S16x8x64_3_2_2_n_01_01 none S r (ix3 q h j) = ∑ i, S (ix4 q h j i) * r (ix3 q h i) := by
  pointwise []

/-- The real sequence behind a row and a head of the carried arrays, and its state after `n` steps. -/
def seqQ (R : RArgs) (q : Fin 16) (h : Fin 8) : Seq := R.seq (bQ q) (revQ q) (pOf h)
def stQ (R : RArgs) (q : Fin 16) (h : Fin 8) (n : ℕ) : Matrix (Fin 64) (Fin 64) ℝ := stG (revQ q) (seqQ R q h) (hhOf h) n

/-- A carried array is a field of the sequences, time taken step by step. -/
def IsX (R : RArgs) (x : FVec Ideal S8192x16x8x64 .f32) (f : Seq → Fin 8192 → Fin 128 → ℝ) : Prop :=
  ∀ t q h j, x (ix4 t q h j) = ((f (seqQ R q h) (timeG (revQ q) t.val) (colH (hhOf h) j) : ℝ) : EReal)

theorem both_isX (R : RArgs) (f b : FVec Ideal S8x4x8192x128 .f32) (g : Seq → Fin 8192 → Fin 128 → ℝ)
    (hf : ∀ e p s l, f (ix4 e p s l) = ((g (R.seq e false p) s l : ℝ) : EReal)) (hb : ∀ e p s l, b (ix4 e p s l) = ((g (R.seq e true p) s l : ℝ) : EReal)) :
    IsX R (both f b) g := by
  intro t q h j
  rw [both_at]
  unfold seqQ
  cases revQ q
  · exact hf ..
  · exact hb ..

variable (R : RArgs)

/-- What the loop's buffers hold after `n` steps. -/
structure Inv (n : ℕ) (V : Valuation τ sig (Elt Ideal)) : Prop where
  ctr : V (Proc.devRef .tc main_v62_6) = fun _ => BitVec.ofNat 32 n
  r : IsX R (V (Proc.devRef .tc main_v62_0)) fun G => G.r
  w : IsX R (V (Proc.devRef .tc main_v62_1)) fun G t l => Real.exp (G.lw t l)
  k : IsX R (V (Proc.devRef .tc main_v62_2)) fun G => G.k
  v : IsX R (V (Proc.devRef .tc main_v62_3)) fun G => G.v
  a : IsX R (V (Proc.devRef .tc main_v62_4)) fun G t l => -G.n t l
  b : IsX R (V (Proc.devRef .tc main_v62_5)) fun G => G.b
  st : ∀ q h j i, (V (Proc.devRef .tc main_v62_7) : FVec Ideal S16x8x64x64 .f32) (ix4 q h j i) = ((stQ R q h n i j : ℝ) : EReal)
  out : ∀ (t : Fin 8192) q h j, t.val < n → (V (Proc.devRef .tc main_v62_8) : FVec Ideal S8192x16x8x64 .f32) (ix4 t q h j)
    = ((∑ i : Fin 64, (seqQ R q h).r (timeG (revQ q) t.val) (colH (hhOf h) i) * stQ R q h (t.val + 1) i j : ℝ) : EReal)

theorem res_eq (V : Valuation τ sig (Elt Ideal)) (n : Fin 8192) (hc : V (Proc.devRef .tc main_v62_6) = fun _ => BitVec.ofNat 32 n.val) :
    res_main_while0b_v93 V = stepS (V (Proc.devRef .tc main_v62_7)) (row (V (Proc.devRef .tc main_v62_1)) n) (row (V (Proc.devRef .tc main_v62_2)) n)
      (row (V (Proc.devRef .tc main_v62_3)) n) (row (V (Proc.devRef .tc main_v62_4)) n) (row (V (Proc.devRef .tc main_v62_5)) n) := by
  simp only [← slice_row _ (V (Proc.devRef .tc main_v62_6)) n hc]
  rfl

theorem step_8 (V : Valuation τ sig (Elt Ideal)) (n : Fin 8192) (hc : V (Proc.devRef .tc main_v62_6) = fun _ => BitVec.ofNat 32 n.val) :
    step_main_v62_8 V = putRow (V (Proc.devRef .tc main_v62_8))
      (Host.dotGeneral (φ₁ := .f32) dot_S16x8x64x64_S16x8x64_S16x8x64_3_2_2_n_01_01 none (res_main_while0b_v93 V) (row (V (Proc.devRef .tc main_v62_0)) n)) n := by
  rw [← update_row _ _ (V (Proc.devRef .tc main_v62_6)) n hc, ← slice_row _ (V (Proc.devRef .tc main_v62_6)) n hc]
  rfl

theorem step_st {n : Fin 8192} {V : Valuation τ sig (Elt Ideal)} (H : Inv R n.val V) (q : Fin 16) (h : Fin 8) (j i : Fin 64) :
    (res_main_while0b_v93 V : FVec Ideal S16x8x64x64 .f32) (ix4 q h j i) = ((stQ R q h (n.val + 1) i j : ℝ) : EReal) := by
  rw [res_eq V n H.ctr, stepS_at]
  simp only [row, H.st]
  simp only [ix3_0, ix3_1, ix3_2]
  rw [H.w n q h i, H.b n q h i, H.v n q h j, H.k n q h i]
  simp only [H.a n q h]
  simp only [← EReal.coe_mul, Cert.KernelIdeal.Stages.coe_sum, ← EReal.coe_add]
  refine congrArg _ ?_
  show _ = Real.exp ((seqQ R q h).lw (timeG (revQ q) n.val) (colH (hhOf h) i)) * stQ R q h n.val i j
    + (seqQ R q h).b (timeG (revQ q) n.val) (colH (hhOf h) i) * (∑ l, -(seqQ R q h).n (timeG (revQ q) n.val) (colH (hhOf h) l) * stQ R q h n.val l j)
    + (seqQ R q h).k (timeG (revQ q) n.val) (colH (hhOf h) i) * (seqQ R q h).v (timeG (revQ q) n.val) (colH (hhOf h) j)
  rw [Finset.sum_congr rfl fun l _ => mul_comm (stQ R q h n.val l j) _]
  ring

theorem step {n : ℕ} (hn : n < 8192) {V : Valuation τ sig (Elt Ideal)} (H : Inv R n V) : Inv R (n + 1) (STEP V) where
  ctr := by
    rw [STEP_main_v62_6]
    unfold step_main_v62_6
    rw [H.ctr]
    funext y
    exact (BitVec.ofNat_add n 1).symm
  r := by rw [STEP_main_v62_0]; exact H.r
  w := by rw [STEP_main_v62_1]; exact H.w
  k := by rw [STEP_main_v62_2]; exact H.k
  v := by rw [STEP_main_v62_3]; exact H.v
  a := by rw [STEP_main_v62_4]; exact H.a
  b := by rw [STEP_main_v62_5]; exact H.b
  st q h j i := by
    rw [STEP_main_v62_7]
    exact step_st R (n := ⟨n, hn⟩) H q h j i
  out t q h j ht := by
    rw [STEP_main_v62_8]
    refine (congrFun (step_8 V ⟨n, hn⟩ H.ctr) _).trans ?_
    unfold putRow
    by_cases e : t.val = n
    · subst e
      refine (if_pos rfl).trans ((out_at _ _ q h j).trans ?_)
      simp only [step_st R (n := t) H]
      simp only [row, ix3_0, ix3_1, ix3_2]
      simp only [H.r t q h]
      simp only [← EReal.coe_mul, Cert.KernelIdeal.Stages.coe_sum]
      exact congrArg _ (Finset.sum_congr rfl fun l _ => mul_comm _ _)
    · exact (if_neg e).trans (H.out t q h j (by omega))

variable (m : (ℓ : Loc nD τ sig) → Buf (Elt Ideal) ℓ) (c : Dev nD)

theorem entry_0 : StableHlo.entryContents preI m c (Proc.devRef .tc main_v62_0) = both (extf .f32 (m ((c : Thread nD τ).loc main_arg0)) bitsLt_bf16_f32) (extf .f32 (m ((c : Thread nD τ).loc main_arg0)) bitsLt_bf16_f32) := by
  simp only [StableHlo.entryContents, StableHlo.afterL_cons, StableHlo.afterL_nil]
  after_reads_simp
  rfl

theorem entry_1 : StableHlo.entryContents preI m c (Proc.devRef .tc main_v62_1) = Host.exp (both (m ((c : Thread nD τ).loc main_arg5)) (m ((c : Thread nD τ).loc main_arg8))) := by
  simp only [StableHlo.entryContents, StableHlo.afterL_cons, StableHlo.afterL_nil]
  after_reads_simp
  rfl

theorem entry_2 : StableHlo.entryContents preI m c (Proc.devRef .tc main_v62_2) = both (extf .f32 (m ((c : Thread nD τ).loc main_arg3)) bitsLt_bf16_f32) (extf .f32 (m ((c : Thread nD τ).loc main_arg6)) bitsLt_bf16_f32) := by
  simp only [StableHlo.entryContents, StableHlo.afterL_cons, StableHlo.afterL_nil]
  after_reads_simp
  rfl
theorem entry_3 : StableHlo.entryContents preI m c (Proc.devRef .tc main_v62_3) = both (extf .f32 (m ((c : Thread nD τ).loc main_arg1)) bitsLt_bf16_f32) (extf .f32 (m ((c : Thread nD τ).loc main_arg1)) bitsLt_bf16_f32) := by
  simp only [StableHlo.entryContents, StableHlo.afterL_cons, StableHlo.afterL_nil]
  after_reads_simp
  rfl
theorem entry_4 : StableHlo.entryContents preI m c (Proc.devRef .tc main_v62_4) = Host.negf (both (extf .f32 (m ((c : Thread nD τ).loc main_arg2)) bitsLt_bf16_f32) (extf .f32 (m ((c : Thread nD τ).loc main_arg2)) bitsLt_bf16_f32)) := by
  simp only [StableHlo.entryContents, StableHlo.afterL_cons, StableHlo.afterL_nil]
  after_reads_simp
  rfl
theorem entry_5 : StableHlo.entryContents preI m c (Proc.devRef .tc main_v62_5) = both (extf .f32 (m ((c : Thread nD τ).loc main_arg4)) bitsLt_bf16_f32) (extf .f32 (m ((c : Thread nD τ).loc main_arg7)) bitsLt_bf16_f32) := by
  simp only [StableHlo.entryContents, StableHlo.afterL_cons, StableHlo.afterL_nil]
  after_reads_simp
  rfl
theorem entry_7 : StableHlo.entryContents preI m c (Proc.devRef .tc main_v62_7) = (broadcastInDim S16x8x64x64 ![] bcast_S_S16x8x64x64 (constant S_ .f32 0x00000000#32) : FVec Ideal S16x8x64x64 .f32) := by
  simp only [StableHlo.entryContents, StableHlo.afterL_cons, StableHlo.afterL_nil]
  after_reads_simp
  rfl

/-- The reference's arguments are those real numbers. -/
structure RefArgs : Prop where
  r : ∀ b p s l, m ((c : Thread nD τ).loc main_arg0) (ix4 b p s l : S8x4x8192x128.Idx) = ((R.r b p s l : ℝ) : EReal)
  v : ∀ b p s l, m ((c : Thread nD τ).loc main_arg1) (ix4 b p s l : S8x4x8192x128.Idx) = ((R.v b p s l : ℝ) : EReal)
  n : ∀ b p s l, m ((c : Thread nD τ).loc main_arg2) (ix4 b p s l : S8x4x8192x128.Idx) = ((R.n b p s l : ℝ) : EReal)
  kf : ∀ b p s l, m ((c : Thread nD τ).loc main_arg3) (ix4 b p s l : S8x4x8192x128.Idx) = ((R.k false b p s l : ℝ) : EReal)
  bf : ∀ b p s l, m ((c : Thread nD τ).loc main_arg4) (ix4 b p s l : S8x4x8192x128.Idx) = ((R.b false b p s l : ℝ) : EReal)
  lf : ∀ b p s l, m ((c : Thread nD τ).loc main_arg5) (ix4 b p s l : S8x4x8192x128.Idx) = ((R.lw false b p s l : ℝ) : EReal)
  kb : ∀ b p s l, m ((c : Thread nD τ).loc main_arg6) (ix4 b p s l : S8x4x8192x128.Idx) = ((R.k true b p s l : ℝ) : EReal)
  bb : ∀ b p s l, m ((c : Thread nD τ).loc main_arg7) (ix4 b p s l : S8x4x8192x128.Idx) = ((R.b true b p s l : ℝ) : EReal)
  lb : ∀ b p s l, m ((c : Thread nD τ).loc main_arg8) (ix4 b p s l : S8x4x8192x128.Idx) = ((R.lw true b p s l : ℝ) : EReal)

variable {R m c} (hA : RefArgs R m c)
include hA

omit hA in
theorem exp_at (x : FVec Ideal S8192x16x8x64 .f32) (y : S8192x16x8x64.Idx) : Host.exp x y = Ideal.exp (x y) := rfl

theorem start : Inv R 0 (StableHlo.entryContents preI m c) where
  ctr := ctr_entry m c
  r := by rw [entry_0]; exact both_isX R _ _ _ (fun e p s l => hA.r e p s l) (fun e p s l => hA.r e p s l)
  w := by
    rw [entry_1]
    intro t q h j
    refine (exp_at _ _).trans ?_
    rw [both_isX R _ _ (fun G => G.lw) (fun e p s l => hA.lf e p s l) (fun e p s l => hA.lb e p s l) t q h j]
    exact Ideal.exp_coe _
  k := by rw [entry_2]; exact both_isX R _ _ _ (fun e p s l => hA.kf e p s l) (fun e p s l => hA.kb e p s l)
  v := by rw [entry_3]; exact both_isX R _ _ _ (fun e p s l => hA.v e p s l) (fun e p s l => hA.v e p s l)
  a := by
    rw [entry_4]
    intro t q h j
    refine (congrArg (fun z : EReal => -z) (both_isX R _ _ (fun G => G.n) (fun e p s l => hA.n e p s l) (fun e p s l => hA.n e p s l) t q h j)).trans ?_
    exact (EReal.coe_neg _).symm
  b := by rw [entry_5]; exact both_isX R _ _ _ (fun e p s l => hA.bf e p s l) (fun e p s l => hA.bb e p s l)
  st q h j i := by
    rw [entry_7]
    pointwise []
    rfl
  out t q h j ht := absurd ht (Nat.not_lt_zero _)

theorem loop_inv : ∀ n ≤ 8192, Inv R n (STEP^[n] (StableHlo.entryContents preI m c))
  | 0, _ => start hA
  | n + 1, h => by
    rw [Function.iterate_succ_apply']
    exact step R (by omega) (loop_inv n (by omega))

omit hA in
theorem out66_at (V : Valuation τ sig (Elt Ideal)) (b : Fin 8) (p : Fin 4) (s : Fin 8192) (l : Fin 128) :
    (out_main_v66 V : FVec Ideal S8x4x8192x128 .f32) (ix4 b p s l)
      = (V (Proc.devRef .tc main_v62_8) : FVec Ideal S8192x16x8x64 .f32) (ix4 s ⟨b.val, by omega⟩ ⟨2 * p.val + (hOf l).val, by omega⟩ (lOf l)) := by
  generalize hX : (V (Proc.devRef .tc main_v62_8) : FVec Ideal S8192x16x8x64 .f32) = X
  unfold out_main_v66
  rw [show V (Proc.devRef .tc main_v62_8) = X from hX]
  pointwise []
  exact congrArg (fun z => X (ix4 s ⟨b.val, by omega⟩ z (lOf l))) (Fin.ext (by simp only [hOf]; omega))

omit hA in
theorem out71_at (V : Valuation τ sig (Elt Ideal)) (b : Fin 8) (p : Fin 4) (s : Fin 8192) (l : Fin 128) :
    (out_main_v71 V : FVec Ideal S8x4x8192x128 .f32) (ix4 b p s l)
      = (V (Proc.devRef .tc main_v62_8) : FVec Ideal S8192x16x8x64 .f32) (ix4 s.rev ⟨8 + b.val, by omega⟩ ⟨2 * p.val + (hOf l).val, by omega⟩ (lOf l)) := by
  generalize hX : (V (Proc.devRef .tc main_v62_8) : FVec Ideal S8192x16x8x64 .f32) = X
  unfold out_main_v71
  rw [show V (Proc.devRef .tc main_v62_8) = X from hX]
  pointwise []
  simp only [List.mem_cons, List.not_mem_nil, or_false, Fin.isValue, if_true]
  refine (congrArg X ?_ : _ = X (ix4 s.rev ⟨8 + b.val, by omega⟩ ⟨p.val * 2 + l.val / 64, by omega⟩ (lOf l))).trans ?_
  · funext a; fin_cases a <;> rfl
  exact congrArg (fun z => X (ix4 s.rev ⟨8 + b.val, by omega⟩ z (lOf l))) (Fin.ext (by simp only [hOf]; omega))

omit hA in
theorem row_out {V : Valuation τ sig (Elt Ideal)} (H : Inv R 8192 V) (rev : Bool) (t : Fin 8192) (q : Fin 16) (h : Fin 8) (b : Fin 8) (p : Fin 4) (s : Fin 8192) (l : Fin 128)
    (hb : bQ q = b) (hr : revQ q = rev) (hp : pOf h = p) (hh : hhOf h = hOf l) (ht : timeG rev t.val = s) (hs : stepG rev s = t.val) :
    (V (Proc.devRef .tc main_v62_8) : FVec Ideal S8192x16x8x64 .f32) (ix4 t q h (lOf l)) = outA R rev (ix4 b p s l : S8x4x8192x128.Idx) := by
  subst hb hr hp ht
  rw [H.out t q h (lOf l) t.isLt]
  simp only [outA, outG, ix4_0, ix4_1, ix4_2, ix4_3, hs, stQ, seqQ, hh]

omit hA in
theorem exists_ix4 (y : S8x4x8192x128.Idx) : ∃ (b : Fin 8) (p : Fin 4) (s : Fin 8192) (l : Fin 128), y = ix4 b p s l :=
  ⟨y 0, y 1, y 2, y 3, by funext a; fin_cases a <;> rfl⟩

theorem out66 : out_main_v66 (STEP^[8192] (StableHlo.entryContents preI m c)) = outA R false := by
  funext y
  obtain ⟨b, p, s, l, rfl⟩ := exists_ix4 y
  refine (out66_at _ b p s l).trans (row_out (loop_inv hA 8192 le_rfl) false s _ _ b p s l ?_ ?_ ?_ ?_ ?_ ?_)
  · exact Fin.ext (by simp only [bQ]; omega)
  · exact decide_eq_false (by show ¬ 8 ≤ b.val; omega)
  · exact Fin.ext (by simp only [pOf, hOf]; omega)
  · exact Fin.ext (by simp only [hhOf, hOf]; omega)
  · exact Fin.ext (by simp only [timeG, cond_false]; omega)
  · rfl

theorem out71 : out_main_v71 (STEP^[8192] (StableHlo.entryContents preI m c)) = outA R true := by
  funext y
  obtain ⟨b, p, s, l, rfl⟩ := exists_ix4 y
  refine (out71_at _ b p s l).trans (row_out (loop_inv hA 8192 le_rfl) true s.rev _ _ b p s l ?_ ?_ ?_ ?_ ?_ ?_)
  · exact Fin.ext (by simp only [bQ]; omega)
  · exact decide_eq_true (by show 8 ≤ 8 + b.val; omega)
  · exact Fin.ext (by simp only [pOf, hOf]; omega)
  · exact Fin.ext (by simp only [hhOf, hOf]; omega)
  · exact Fin.ext (by simp only [timeG, cond_true, Fin.val_rev]; omega)
  · simp only [stepG, cond_true, Fin.val_rev]; omega

end Cert.ReferenceIdeal.Loop
-- ==== Proof.Algebraic.lean ====
/- The value claim: on finite arguments the kernel's two arrays and the reference's are the same real numbers. -/
module

public import proofs.«01_k».proof.Defs
public import proofs.«01_k».proof.Proof.Ref
public import proofs.«01_k».proof.Proof.Gen.Pre_finite_arguments

@[expose] public section

set_option maxRecDepth 16384

noncomputable section

namespace Cert.Proof

open Idealize.ShloMosaic Idealize.ShloMosaic.TcCoe Idealize.ShloMosaic.Tactic Idealize.SL.Sem
open Cert.KernelIdeal.Stages (RArgs IsArgs outA)
open Cert.KernelIdeal (S8x4x8192x128)
open Cert.ReferenceIdeal.Loop (RefArgs)

/-- Below infinity in absolute value, entry by entry. -/
def below (x : FVec Ideal S8x4x8192x128 .f32) : IVec S8x4x8192x128 1 :=
  cmpf .olt (Host.absf x) (broadcastInDim S8x4x8192x128 ![] Cert.Pre_finite_arguments.Gen.facts.bcast_S_S8x4x8192x128 (constant Cert.Pre_finite_arguments.S_ .f32 0x7F800000#32))

theorem real_of_lt (z : EReal) (h : max z (-z) < ⊤) : ∃ r : ℝ, z = (r : EReal) := by
  induction z with
  | bot => exact absurd h (by simp)
  | top => exact absurd h (by simp)
  | coe r => exact ⟨r, rfl⟩

theorem real_of_below (x : FVec Ideal S8x4x8192x128 .f32) (y : S8x4x8192x128.Idx) (h : below x y = 1#1) : ∃ r : ℝ, x y = (r : EReal) := by
  revert h
  pointwise [below]
  intro h
  have h' : FloatOps.absf (F := Ideal) (φ := .f32) (x y) < Ideal.ofBits FTy.f32 0x7F800000#32 := by
    by_contra hn
    rw [decide_eq_false hn] at h
    exact absurd h (by decide)
  have e : Ideal.ofBits FTy.f32 0x7F800000#32 = (⊤ : EReal) := by
    simp [Ideal.ofBits, Ideal.ieee]
  rw [e] at h'
  exact real_of_lt (x y) h'

theorem and_one : ∀ a b : BitVec 1, a &&& b = 1#1 → a = 1#1 ∧ b = 1#1 := by decide

theorem fn_at (a0 a1 a2 a3 a4 : FVec Ideal S8x4x8192x128 .bf16) (a5 : FVec Ideal S8x4x8192x128 .f32) (a6 a7 : FVec Ideal S8x4x8192x128 .bf16) (a8 : FVec Ideal S8x4x8192x128 .f32)
    (h : Cert.Pre_finite_arguments.fn a0 a1 a2 a3 a4 a5 a6 a7 a8 = fun _ => 1#1) (y : S8x4x8192x128.Idx) :
    (∃ r : ℝ, a0 y = (r : EReal)) ∧ (∃ r : ℝ, a1 y = (r : EReal)) ∧ (∃ r : ℝ, a2 y = (r : EReal)) ∧ (∃ r : ℝ, a3 y = (r : EReal)) ∧ (∃ r : ℝ, a4 y = (r : EReal))
      ∧ (∃ r : ℝ, a5 y = (r : EReal)) ∧ (∃ r : ℝ, a6 y = (r : EReal)) ∧ (∃ r : ℝ, a7 y = (r : EReal)) ∧ (∃ r : ℝ, a8 y = (r : EReal)) := by
  have h8 := and_one _ _ (congrFun h y)
  have h7 := and_one _ _ h8.1
  have h6 := and_one _ _ h7.1
  have h5 := and_one _ _ h6.1
  have h4 := and_one _ _ h5.1
  have h3 := and_one _ _ h4.1
  have h2 := and_one _ _ h3.1
  have h1 := and_one _ _ h2.1
  exact ⟨real_of_below a0 y h1.1, real_of_below a1 y h1.2, real_of_below a2 y h2.2, real_of_below a3 y h3.2, real_of_below a4 y h4.2,
    real_of_below a5 y h5.2, real_of_below a6 y h6.2, real_of_below a7 y h7.2, real_of_below a8 y h8.2⟩

/-- The real numbers an array of finite entries holds. -/
def reals {φ : FTy} (x : FVec Ideal S8x4x8192x128 φ) (b : Fin 8) (p : Fin 4) (s : Fin 8192) (l : Fin 128) : ℝ := (x (ix4 b p s l) : EReal).toReal
theorem reals_eq {φ : FTy} (x : FVec Ideal S8x4x8192x128 φ) (h : ∀ y, ∃ r : ℝ, x y = (r : EReal)) (b : Fin 8) (p : Fin 4) (s : Fin 8192) (l : Fin 128) :
    x (ix4 b p s l) = ((reals x b p s l : ℝ) : EReal) := by
  obtain ⟨r, hr⟩ := h (ix4 b p s l)
  unfold reals
  rw [hr]; rfl

section Kernel
open Cert.KernelIdeal
variable (m : (ℓ : Loc nD τ sig) → Buf (Elt Ideal) ℓ) (c : Dev nD)

def realArgs : RArgs where
  r := reals (φ := .bf16) (m ((c : Thread nD τ).loc main_arg0))
  v := reals (φ := .bf16) (m ((c : Thread nD τ).loc main_arg1))
  n := reals (φ := .bf16) (m ((c : Thread nD τ).loc main_arg2))
  k rev := bif rev then reals (φ := .bf16) (m ((c : Thread nD τ).loc main_arg6)) else reals (φ := .bf16) (m ((c : Thread nD τ).loc main_arg3))
  b rev := bif rev then reals (φ := .bf16) (m ((c : Thread nD τ).loc main_arg7)) else reals (φ := .bf16) (m ((c : Thread nD τ).loc main_arg4))
  lw rev := bif rev then reals (φ := .f32) (m ((c : Thread nD τ).loc main_arg8)) else reals (φ := .f32) (m ((c : Thread nD τ).loc main_arg5))

theorem isArgs [Cert.Pre_finite_arguments.Facts] (h : Cert.Pre_KernelIdeal_finite_arguments m) : IsArgs m c (realArgs m c) := by
  have H := fn_at _ _ _ _ _ _ _ _ _ (h c)
  exact ⟨reals_eq (φ := .bf16) _ fun y => (H y).1, reals_eq (φ := .bf16) _ fun y => (H y).2.1, reals_eq (φ := .bf16) _ fun y => (H y).2.2.1,
    reals_eq (φ := .bf16) _ fun y => (H y).2.2.2.1, reals_eq (φ := .bf16) _ fun y => (H y).2.2.2.2.1, reals_eq (φ := .f32) _ fun y => (H y).2.2.2.2.2.1,
    reals_eq (φ := .bf16) _ fun y => (H y).2.2.2.2.2.2.1, reals_eq (φ := .bf16) _ fun y => (H y).2.2.2.2.2.2.2.1, reals_eq (φ := .f32) _ fun y => (H y).2.2.2.2.2.2.2.2⟩
end Kernel

theorem algebraic : Cert.algebraic_KernelIdeal_ReferenceIdeal_pre_finite_arguments := by
  intro m ρ m' ρ' hpre hag
  have hK : ∀ c, IsArgs m c (realArgs m c) := fun c => isArgs m c hpre
  have hR : ∀ c, RefArgs (realArgs m c) m' c := fun c => by
    obtain ⟨e0, e1, e2, e3, e4, e5, e6, e7, e8⟩ := hag c
    exact ⟨fun b p s l => (congrFun e0 _).trans ((hK c).r b p s l), fun b p s l => (congrFun e1 _).trans ((hK c).v b p s l),
      fun b p s l => (congrFun e2 _).trans ((hK c).n b p s l), fun b p s l => (congrFun e3 _).trans ((hK c).kf b p s l),
      fun b p s l => (congrFun e4 _).trans ((hK c).bf b p s l), fun b p s l => (congrFun e5 _).trans ((hK c).lf b p s l),
      fun b p s l => (congrFun e6 _).trans ((hK c).kb b p s l), fun b p s l => (congrFun e7 _).trans ((hK c).bb b p s l),
      fun b p s l => (congrFun e8 _).trans ((hK c).lb b p s l)⟩
  refine ⟨fun c => outA (realArgs m c) false, fun c => outA (realArgs m c) true, ?_, ?_⟩
  · exact (θ_run _ _ _).mono (fun _ h c => ⟨(h c).1.trans (Cert.KernelIdeal.Stages.final_f (hK c)), (h c).2.1.trans (Cert.KernelIdeal.Stages.final_b (hK c)), (h c).2.2⟩)
      (Cert.KernelIdeal.Value.run_blocks m ρ)
  · exact (θ_run _ _ _).mono (fun _ h c => ⟨(h c).1.trans (Cert.ReferenceIdeal.Loop.out66 (hR c)), (h c).2.1.trans (Cert.ReferenceIdeal.Loop.out71 (hR c)), (h c).2.2⟩)
      (Cert.ReferenceIdeal.Value.run m' ρ')

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_arguments
public import proofs.«01_k».proof.Proof.ExpertsAlgebraic
public import proofs.«01_k».proof.Proof.Algebraic
public import Idealize.ShloMosaic.Adequacy
public import Idealize.ShloMosaic.Init

@[expose] public section

noncomputable section

namespace Cert.Proof

open Idealize.ShloMosaic Idealize.SL.Sem

/-- The reference's frame, read off its generated run. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The experts' reference's frame, read off its generated run. -/
theorem frame_experts_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts, Cert.Pre_finite_arguments.Gen.facts,
  Cert.Pre_experts_named.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  frame_experts, frame_experts_ideal, frame_experts_reference, fun m ρ _ => frame_experts_reference m ρ trivial,
  trivial, algebraic, trivial, algebraic_experts⟩

end Cert.Proof

end
